-- ==== Defs.lean ====
def Pre_Kernel [hPre_classes_named : Cert.Pre_classes_named.Facts] (m : (ℓ : Loc Cert.Kernel.nD Cert.Kernel.τ Cert.Kernel.sig) → Buf (Elt Bits) ℓ) : Prop :=
  ∀ c : Dev Cert.Kernel.nD,
    (Cert.Pre_classes_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_classes_named : Cert.Pre_classes_named.Facts] (m : (ℓ : Loc Cert.KernelIdeal.nD Cert.KernelIdeal.τ Cert.KernelIdeal.sig) → Buf (Elt Ideal) ℓ) : Prop :=
  ∀ c : Dev Cert.KernelIdeal.nD,
    (Cert.Pre_classes_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_objects_drawn [hPre_objects_drawn : Cert.Pre_objects_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_objects_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_objects_drawn [hPre_objects_drawn : Cert.Pre_objects_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_objects_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_classes_named : Cert.Pre_classes_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_classes_named : Cert.Pre_classes_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_objects_drawn [hKernelIdeal : Cert.KernelIdeal.Facts] [hPre_objects_drawn : Cert.Pre_objects_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_objects_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_objects_drawn [hReferenceIdeal : Cert.ReferenceIdeal.Facts] [hPre_objects_drawn : Cert.Pre_objects_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_objects_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_objects_drawn [hKernelIdeal : Cert.KernelIdeal.Facts] [hReferenceIdeal : Cert.ReferenceIdeal.Facts] [hPre_objects_drawn : Cert.Pre_objects_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_objects_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v15) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v200) = v2 c
          ∧ r.2.mem ((c.tc : Thread Cert.ReferenceIdeal.nD Cert.ReferenceIdeal.τ).loc Cert.ReferenceIdeal.main_v191) = v3 c
          ∧ r.2.mem ((c.tc : Thread Cert.ReferenceIdeal.nD Cert.ReferenceIdeal.τ).loc Cert.ReferenceIdeal.main_v209) = v4 c
          ∧ r.2.mem ((c.tc : Thread Cert.ReferenceIdeal.nD Cert.ReferenceIdeal.τ).loc Cert.ReferenceIdeal.main_v203) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_classes_named : Cert.Pre_classes_named.Facts) (hPre_objects_drawn : Cert.Pre_objects_drawn.Facts),
    quiescent_Kernel (hKernel := hKernel) (hPre_classes_named := hPre_classes_named)
    ∧ quiescent_KernelIdeal (hKernelIdeal := hKernelIdeal) (hPre_classes_named := hPre_classes_named)
    ∧ quiescent_KernelIdeal_pre_objects_drawn (hKernelIdeal := hKernelIdeal) (hPre_objects_drawn := hPre_objects_drawn)
    ∧ quiescent_ReferenceIdeal (hReferenceIdeal := hReferenceIdeal)
    ∧ quiescent_ReferenceIdeal_pre_objects_drawn (hReferenceIdeal := hReferenceIdeal) (hPre_objects_drawn := hPre_objects_drawn)
    ∧ preserves_Kernel_KernelIdeal
    ∧ algebraic_KernelIdeal_ReferenceIdeal_pre_objects_drawn (hKernelIdeal := hKernelIdeal) (hReferenceIdeal := hReferenceIdeal) (hPre_objects_drawn := hPre_objects_drawn)
-- ==== Pre_classes_named.lean ====
abbrev S8x50x10 : Shape := ⟨3, ![8, 50, 10]⟩
abbrev S8x10x180x180 : Shape := ⟨4, ![8, 10, 180, 180]⟩
abbrev S8x2x180x180 : Shape := ⟨4, ![8, 2, 180, 180]⟩
abbrev S8x1x180x180 : Shape := ⟨4, ![8, 1, 180, 180]⟩
abbrev S8x3x180x180 : Shape := ⟨4, ![8, 3, 180, 180]⟩
abbrev S8x50x1 : Shape := ⟨3, ![8, 50, 1]⟩
abbrev S8x50 : Shape := ⟨2, ![8, 50]⟩
abbrev S_ : Shape := ⟨0, ![]⟩

class Facts : Prop where
  slices_S8x50x10_S8x50x1_0_0_9 : S8x50x10.Slices ![0, 0, 9] S8x50x1
  shapeCasts_S8x50x1_S8x50 : S8x50x1.ShapeCasts S8x50
  bcast_S_S8x50 : S_.BroadcastsInDim S8x50 (![] : Fin 0 → Fin S8x50.rank)

variable [Facts]

def fn {F : FTy → Type} [FloatOps F] (main_arg0 : FVec F S8x50x10 .f32) (main_arg1 : FVec F S8x10x180x180 .f32) (main_arg2 : FVec F S8x2x180x180 .f32) (main_arg3 : FVec F S8x1x180x180 .f32) (main_arg4 : FVec F S8x3x180x180 .f32) (main_arg5 : FVec F S8x2x180x180 .f32) (main_arg6 : FVec F S8x2x180x180 .f32) : IVec S8x50 1 :=
  let main_v0 : FVec F S8x50x1 .f32 := (extractStridedSlice S8x50x1 ![0, 0, 9] · slices_S8x50x10_S8x50x1_0_0_9) main_arg0
  let main_v1 : FVec F S8x50 .f32 := shapeCast S8x50 main_v0 shapeCasts_S8x50x1_S8x50
  let main_v2 : IVec S8x50 32 := fptosi 32 main_v1
  let main_c : IVec S_ 32 := constantI S_ 32 0#32
  let main_v3 : IVec S8x50 32 := broadcastInDim S8x50 ![] bcast_S_S8x50 main_c
  let main_v4 : IVec S8x50 1 := cmpi .sge main_v2 main_v3
  let main_c_0 : IVec S_ 32 := constantI S_ 32 10#32
  let main_v5 : IVec S8x50 32 := broadcastInDim S8x50 ![] bcast_S_S8x50 main_c_0
  let main_v6 : IVec S8x50 1 := cmpi .slt main_v2 main_v5
  let main_v7 : IVec S8x50 1 := andi main_v4 main_v6
  main_v7
-- ==== Pre_objects_drawn.lean ====
abbrev S8x50x10 : Shape := ⟨3, ![8, 50, 10]⟩
abbrev S8x10x180x180 : Shape := ⟨4, ![8, 10, 180, 180]⟩
abbrev S8x2x180x180 : Shape := ⟨4, ![8, 2, 180, 180]⟩
abbrev S8x1x180x180 : Shape := ⟨4, ![8, 1, 180, 180]⟩
abbrev S8x3x180x180 : Shape := ⟨4, ![8, 3, 180, 180]⟩
abbrev S8x50x1 : Shape := ⟨3, ![8, 50, 1]⟩
abbrev S8x50 : Shape := ⟨2, ![8, 50]⟩
abbrev S_ : Shape := ⟨0, ![]⟩

class Facts : Prop where
  slices_S8x50x10_S8x50x1_0_0_9 : S8x50x10.Slices ![0, 0, 9] S8x50x1
  shapeCasts_S8x50x1_S8x50 : S8x50x1.ShapeCasts S8x50
  bcast_S_S8x50 : S_.BroadcastsInDim S8x50 (![] : Fin 0 → Fin S8x50.rank)
  slices_S8x50x10_S8x50x1_0_0_3 : S8x50x10.Slices ![0, 0, 3] S8x50x1
  slices_S8x50x10_S8x50x1_0_0_4 : S8x50x10.Slices ![0, 0, 4] S8x50x1

variable [Facts]

def fn {F : FTy → Type} [FloatOps F] (main_arg0 : FVec F S8x50x10 .f32) (main_arg1 : FVec F S8x10x180x180 .f32) (main_arg2 : FVec F S8x2x180x180 .f32) (main_arg3 : FVec F S8x1x180x180 .f32) (main_arg4 : FVec F S8x3x180x180 .f32) (main_arg5 : FVec F S8x2x180x180 .f32) (main_arg6 : FVec F S8x2x180x180 .f32) : IVec S8x50 1 :=
  let main_v0 : FVec F S8x50x1 .f32 := (extractStridedSlice S8x50x1 ![0, 0, 9] · slices_S8x50x10_S8x50x1_0_0_9) main_arg0
  let main_v1 : FVec F S8x50 .f32 := shapeCast S8x50 main_v0 shapeCasts_S8x50x1_S8x50
  let main_v2 : IVec S8x50 32 := fptosi 32 main_v1
  let main_c : IVec S_ 32 := constantI S_ 32 0#32
  let main_v3 : IVec S8x50 32 := broadcastInDim S8x50 ![] bcast_S_S8x50 main_c
  let main_v4 : IVec S8x50 1 := cmpi .sge main_v2 main_v3
  let main_c_0 : IVec S_ 32 := constantI S_ 32 10#32
  let main_v5 : IVec S8x50 32 := broadcastInDim S8x50 ![] bcast_S_S8x50 main_c_0
  let main_v6 : IVec S8x50 1 := cmpi .slt main_v2 main_v5
  let main_v7 : IVec S8x50 1 := andi main_v4 main_v6
  let main_v8 : FVec F S8x50x1 .f32 := (extractStridedSlice S8x50x1 ![0, 0, 3] · slices_S8x50x10_S8x50x1_0_0_3) main_arg0
  let main_v9 : FVec F S8x50 .f32 := shapeCast S8x50 main_v8 shapeCasts_S8x50x1_S8x50
  let main_cst : FVec F S_ .f32 := constant S_ .f32 0x42200000#32
  let main_v10 : FVec F S8x50 .f32 := broadcastInDim S8x50 ![] bcast_S_S8x50 main_cst
  let main_v11 : IVec S8x50 1 := cmpf .ole main_v9 main_v10
  let main_v12 : IVec S8x50 1 := andi main_v7 main_v11
  let main_v13 : FVec F S8x50x1 .f32 := (extractStridedSlice S8x50x1 ![0, 0, 4] · slices_S8x50x10_S8x50x1_0_0_4) main_arg0
  let main_v14 : FVec F S8x50 .f32 := shapeCast S8x50 main_v13 shapeCasts_S8x50x1_S8x50
  let main_cst_1 : FVec F S_ .f32 := constant S_ .f32 0x42200000#32
  let main_v15 : FVec F S8x50 .f32 := broadcastInDim S8x50 ![] bcast_S_S8x50 main_cst_1
  let main_v16 : IVec S8x50 1 := cmpf .ole main_v14 main_v15
  let main_v17 : IVec S8x50 1 := andi main_v12 main_v16
  main_v17
-- ==== Kernel.lean ====
abbrev S8x50x10 : Shape := ⟨3, ![8, 50, 10]⟩
abbrev S8x10x180x180 : Shape := ⟨4, ![8, 10, 180, 180]⟩
abbrev S8x2x180x180 : Shape := ⟨4, ![8, 2, 180, 180]⟩
abbrev S8x1x180x180 : Shape := ⟨4, ![8, 1, 180, 180]⟩
abbrev S8x3x180x180 : Shape := ⟨4, ![8, 3, 180, 180]⟩
abbrev S10x8x50 : Shape := ⟨3, ![10, 8, 50]⟩
abbrev S8x14x50 : Shape := ⟨3, ![8, 14, 50]⟩
abbrev S8x4x50 : Shape := ⟨3, ![8, 4, 50]⟩
abbrev S1x8x50 : Shape := ⟨3, ![1, 8, 50]⟩
abbrev S8x50 : Shape := ⟨2, ![8, 50]⟩
abbrev S8x1x50 : Shape := ⟨3, ![8, 1, 50]⟩
abbrev S1920 : Shape := ⟨1, ![1920]⟩
abbrev S_ : Shape := ⟨0, ![]⟩
abbrev S1x1920 : Shape := ⟨2, ![1, 1920]⟩
abbrev S8x180x1800 : Shape := ⟨3, ![8, 180, 1800]⟩
abbrev S1x1 : Shape := ⟨2, ![1, 1]⟩
abbrev S1x10x180x180 : Shape := ⟨4, ![1, 10, 180, 180]⟩
abbrev S1x14x50 : Shape := ⟨3, ![1, 14, 50]⟩
abbrev S1x4x50 : Shape := ⟨3, ![1, 4, 50]⟩
abbrev S1x10x184x180 : Shape := ⟨4, ![1, 10, 184, 180]⟩
abbrev S1x184x1920 : Shape := ⟨3, ![1, 184, 1920]⟩
abbrev S10x180x180 : Shape := ⟨3, ![10, 180, 180]⟩
abbrev S10x184x180 : Shape := ⟨3, ![10, 184, 180]⟩
abbrev S184x1920 : Shape := ⟨2, ![184, 1920]⟩
abbrev S1x1x1 : Shape := ⟨3, ![1, 1, 1]⟩
abbrev S32x1 : Shape := ⟨2, ![32, 1]⟩
abbrev S1x180 : Shape := ⟨2, ![1, 180]⟩
abbrev S32x180 : Shape := ⟨2, ![32, 180]⟩
abbrev S1x1x32x180 : Shape := ⟨4, ![1, 1, 32, 180]⟩
abbrev S1x384 : Shape := ⟨2, ![1, 384]⟩
abbrev S32x384 : Shape := ⟨2, ![32, 384]⟩
abbrev S1x32x384 : Shape := ⟨3, ![1, 32, 384]⟩
abbrev S180x180 : Shape := ⟨2, ![180, 180]⟩
abbrev S1x180x180 : Shape := ⟨3, ![1, 180, 180]⟩
abbrev S1 : Shape := ⟨1, ![1]⟩
abbrev S8x180x180x10 : Shape := ⟨4, ![8, 180, 180, 10]⟩

abbrev nBuf : Space → Nat
  | .hbm => 66
  | .vmem => 15
  | .smem => 5
  | _ => 0

abbrev bufTy : (tb : Table) → Fin (tcTables nBuf tb) → BufTy
  | .hbm, ⟨0, _⟩ => ⟨S8x50x10, .f32⟩
  | .hbm, ⟨1, _⟩ => ⟨S8x10x180x180, .f32⟩
  | .hbm, ⟨2, _⟩ => ⟨S8x2x180x180, .f32⟩
  | .hbm, ⟨3, _⟩ => ⟨S8x1x180x180, .f32⟩
  | .hbm, ⟨4, _⟩ => ⟨S8x3x180x180, .f32⟩
  | .hbm, ⟨5, _⟩ => ⟨S8x2x180x180, .f32⟩
  | .hbm, ⟨6, _⟩ => ⟨S8x2x180x180, .f32⟩
  | .hbm, ⟨7, _⟩ => ⟨S10x8x50, .f32⟩
  | .hbm, ⟨8, _⟩ => ⟨S8x14x50, .f32⟩
  | .hbm, ⟨9, _⟩ => ⟨S8x4x50, .i32⟩
  | .hbm, ⟨10, _⟩ => ⟨S1920, .i32⟩
  | .hbm, ⟨11, _⟩ => ⟨S_, .i32⟩
  | .hbm, ⟨12, _⟩ => ⟨S_, .i32⟩
  | .hbm, ⟨13, _⟩ => ⟨S1920, .i32⟩
  | .hbm, ⟨14, _⟩ => ⟨S1920, .i32⟩
  | .hbm, ⟨15, _⟩ => ⟨S1920, .i32⟩
  | .hbm, ⟨16, _⟩ => ⟨S_, .i32⟩
  | .hbm, ⟨17, _⟩ => ⟨S1920, .i32⟩
  | .hbm, ⟨18, _⟩ => ⟨S1920, .i1⟩
  | .hbm, ⟨19, _⟩ => ⟨S1920, .i32⟩
  | .hbm, ⟨20, _⟩ => ⟨S1920, .i32⟩
  | .hbm, ⟨21, _⟩ => ⟨S_, .i32⟩
  | .hbm, ⟨22, _⟩ => ⟨S1920, .i32⟩
  | .hbm, ⟨23, _⟩ => ⟨S1920, .i1⟩
  | .hbm, ⟨24, _⟩ => ⟨S1920, .i1⟩
  | .hbm, ⟨25, _⟩ => ⟨S_, .i32⟩
  | .hbm, ⟨26, _⟩ => ⟨S1920, .i32⟩
  | .hbm, ⟨27, _⟩ => ⟨S1920, .i32⟩
  | .hbm, ⟨28, _⟩ => ⟨S1920, .i32⟩
  | .hbm, ⟨29, _⟩ => ⟨S1920, .f32⟩
  | .hbm, ⟨30, _⟩ => ⟨S1x1920, .f32⟩
  | .hbm, ⟨31, _⟩ => ⟨S1920, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S1920, .i32⟩
  | .hbm, ⟨39, _⟩ => ⟨S1920, .i32⟩
  | .hbm, ⟨40, _⟩ => ⟨S_, .i32⟩
  | .hbm, ⟨41, _⟩ => ⟨S1920, .i32⟩
  | .hbm, ⟨42, _⟩ => ⟨S1920, .i1⟩
  | .hbm, ⟨43, _⟩ => ⟨S_, .i32⟩
  | .hbm, ⟨44, _⟩ => ⟨S1920, .i32⟩
  | .hbm, ⟨45, _⟩ => ⟨S1920, .i1⟩
  | .hbm, ⟨46, _⟩ => ⟨S_, .i32⟩
  | .hbm, ⟨47, _⟩ => ⟨S_, .i1⟩
  | .hbm, ⟨48, _⟩ => ⟨S1920, .i1⟩
  | .hbm, ⟨49, _⟩ => ⟨S1920, .i1⟩
  | .hbm, ⟨50, _⟩ => ⟨S1920, .i1⟩
  | .hbm, ⟨51, _⟩ => ⟨S1920, .i32⟩
  | .hbm, ⟨52, _⟩ => ⟨S1920, .i32⟩
  | .hbm, ⟨53, _⟩ => ⟨S1920, .i32⟩
  | .hbm, ⟨54, _⟩ => ⟨S1920, .f32⟩
  | .hbm, ⟨55, _⟩ => ⟨S1x1920, .f32⟩
  | .hbm, ⟨56, _⟩ => ⟨S8x10x180x180, .f32⟩
  | .hbm, ⟨57, _⟩ => ⟨S8x10x180x180, .f32⟩
  | .hbm, ⟨58, _⟩ => ⟨S8x180x1800, .f32⟩
  | .hbm, ⟨59, _⟩ => ⟨S8x180x1800, .f32⟩
  | .hbm, ⟨60, _⟩ => ⟨S1x1, .f32⟩
  | .hbm, ⟨61, _⟩ => ⟨S8x10x180x180, .f32⟩
  | .hbm, ⟨62, _⟩ => ⟨S8x180x180x10, .f32⟩
  | .hbm, ⟨63, _⟩ => ⟨S8x180x180x10, .f32⟩
  | .hbm, ⟨64, _⟩ => ⟨S8x180x180x10, .f32⟩
  | .hbm, ⟨65, _⟩ => ⟨S_, .f32⟩
  | .local _ .vmem, ⟨0, _⟩ => ⟨S10x8x50, .f32⟩
  | .local _ .vmem, ⟨1, _⟩ => ⟨S8x14x50, .f32⟩
  | .local _ .vmem, ⟨2, _⟩ => ⟨S8x4x50, .i32⟩
  | .local _ .vmem, ⟨3, _⟩ => ⟨S1x10x180x180, .f32⟩
  | .local _ .vmem, ⟨4, _⟩ => ⟨S1x10x180x180, .f32⟩
  | .local _ .vmem, ⟨5, _⟩ => ⟨S1x1920, .f32⟩
  | .local _ .vmem, ⟨6, _⟩ => ⟨S1x1920, .f32⟩
  | .local _ .vmem, ⟨7, _⟩ => ⟨S1x10x180x180, .f32⟩
  | .local _ .vmem, ⟨8, _⟩ => ⟨S1x10x180x180, .f32⟩
  | .local _ .vmem, ⟨9, _⟩ => ⟨S1x10x184x180, .f32⟩
  | .local _ .vmem, ⟨10, _⟩ => ⟨S1x10x184x180, .f32⟩
  | .local _ .vmem, ⟨11, _⟩ => ⟨S1x184x1920, .f32⟩
  | .local _ .vmem, ⟨12, _⟩ => ⟨S1x184x1920, .f32⟩
  | .local _ .vmem, ⟨13, _⟩ => ⟨S1x184x1920, .f32⟩
  | .local _ .vmem, ⟨14, _⟩ => ⟨S1x184x1920, .f32⟩
  | .local _ .smem, ⟨0, _⟩ => ⟨S1x14x50, .f32⟩
  | .local _ .smem, ⟨1, _⟩ => ⟨S1x14x50, .f32⟩
  | .local _ .smem, ⟨2, _⟩ => ⟨S1x4x50, .i32⟩
  | .local _ .smem, ⟨3, _⟩ => ⟨S1x4x50, .i32⟩
  | .local _ .smem, ⟨4, _⟩ => ⟨S1x1, .f32⟩
  | _, _ => ⟨S8x50x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10_0 : Ref sig .tc := ⟨.hbm, 56, rfl⟩
abbrev main_v10_1 : Ref sig .tc := ⟨.hbm, 57, rfl⟩
abbrev main_v10_2 : Ref sig .tc := ⟨.hbm, 58, rfl⟩
abbrev main_v10_3 : Ref sig .tc := ⟨.hbm, 59, rfl⟩
abbrev main_v10_4 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc1_stg6_0 : Ref sig .tc := ⟨.vmem, 9, rfl⟩
abbrev cc1_stg6_1 : Ref sig .tc := ⟨.vmem, 10, rfl⟩
abbrev cc1_stg7_0 : Ref sig .tc := ⟨.vmem, 11, rfl⟩
abbrev cc1_stg7_1 : Ref sig .tc := ⟨.vmem, 12, rfl⟩
abbrev cc1_stg8_0 : Ref sig .tc := ⟨.vmem, 13, rfl⟩
abbrev cc1_stg8_1 : Ref sig .tc := ⟨.vmem, 14, rfl⟩
abbrev cc1_stg1_0 : Ref sig .tc := ⟨.smem, 0, rfl⟩
abbrev cc1_stg1_1 : Ref sig .tc := ⟨.smem, 1, rfl⟩
abbrev cc1_stg2_0 : Ref sig .tc := ⟨.smem, 2, rfl⟩
abbrev cc1_stg2_1 : Ref sig .tc := ⟨.smem, 3, rfl⟩
abbrev cc1_stg9_0 : Ref sig .tc := ⟨.smem, 4, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc1_sem9_0 : DmaSem sig := 19

abbrev nD : Nat := 1
abbrev τ : Topo := Topo.v7x

variable {F : FTy → Type} [FloatOps F]

abbrev grid0 : Pipeline.Grid := .none

abbrev stage0_0 : Fin 1 → Memref sig .tc .vmem S10x8x50 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x14x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x50 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

@[reducible] def k1_t1_loop : Scf.Loop 32 :=
  let c0_i32 : BitVec 32 := 0#32
  let c50_i32 : BitVec 32 := 50#32
  let v28 : BitVec 32 := Scalar.addi c0_i32 c50_i32
  let c1_i32 : BitVec 32 := 1#32
  ⟨c0_i32, v28, c1_i32⟩
def k1_off1 (k1_t1 : Fin k1_t1_loop.trips) : Fin 3 → Nat :=
  let c0_38 : Index := 0#32
  let c2 : Index := 2#32
  let c0_i32 : BitVec 32 := 0#32
  let c1_i32 : BitVec 32 := 1#32
  let arg11 : BitVec 32 := Scf.iv c0_i32 c1_i32 k1_t1
  let v44 : Index := Scalar.indexCast arg11
  ![0, 2, v44.toNat]
def k1_off2 (k1_t1 : Fin k1_t1_loop.trips) : Fin 3 → Nat :=
  let c0_41 : Index := 0#32
  let c0_42 : Index := 0#32
  let c0_i32 : BitVec 32 := 0#32
  let c1_i32 : BitVec 32 := 1#32
  let arg11 : BitVec 32 := Scf.iv c0_i32 c1_i32 k1_t1
  let v49 : Index := Scalar.indexCast arg11
  ![0, 0, v49.toNat]
def k1_off3 (k1_t1 : Fin k1_t1_loop.trips) : Fin 3 → Nat :=
  let c0_43 : Index := 0#32
  let c1 : Index := 1#32
  let c0_i32 : BitVec 32 := 0#32
  let c1_i32 : BitVec 32 := 1#32
  let arg11 : BitVec 32 := Scf.iv c0_i32 c1_i32 k1_t1
  let v51 : Index := Scalar.indexCast arg11
  ![0, 1, v51.toNat]
def k1_mult1 (v52 : BitVec 32) : BitVec 32 :=
  v52
def k1_cond1 (v45 : BitVec 32) : BitVec 1 :=
  let c1_i32_39 : BitVec 32 := 1#32
  let v46 : BitVec 1 := Scalar.cmpi .eq v45 c1_i32_39
  let v47 : BitVec 32 := Scalar.extui v46
  let c0_i32_40 : BitVec 32 := 0#32
  let v48 : BitVec 1 := Scalar.cmpi .ne v47 c0_i32_40
  v48

def k1_off4 (k1_t1 : Fin k1_t1_loop.trips) : Fin 3 → Nat :=
  let c0_44 : Index := 0#32
  let c0_45 : Index := 0#32
  let c0_i32 : BitVec 32 := 0#32
  let c1_i32 : BitVec 32 := 1#32
  let arg11 : BitVec 32 := Scf.iv c0_i32 c1_i32 k1_t1
  let v54 : Index := Scalar.indexCast arg11
  ![0, 0, v54.toNat]
def k1_off5 (k1_t1 : Fin k1_t1_loop.trips) : Fin 3 → Nat :=
  let c0_46 : Index := 0#32
  let c1_47 : Index := 1#32
  let c0_i32 : BitVec 32 := 0#32
  let c1_i32 : BitVec 32 := 1#32
  let arg11 : BitVec 32 := Scf.iv c0_i32 c1_i32 k1_t1
  let v56 : Index := Scalar.indexCast arg11
  ![0, 1, v56.toNat]
def k1_off6 (k1_t1 : Fin k1_t1_loop.trips) : Fin 3 → Nat :=
  let c0_48 : Index := 0#32
  let c2_49 : Index := 2#32
  let c0_i32 : BitVec 32 := 0#32
  let c1_i32 : BitVec 32 := 1#32
  let arg11 : BitVec 32 := Scf.iv c0_i32 c1_i32 k1_t1
  let v58 : Index := Scalar.indexCast arg11
  ![0, 2, v58.toNat]
def k1_off7 (k1_t1 : Fin k1_t1_loop.trips) : Fin 3 → Nat :=
  let c0_50 : Index := 0#32
  let c3 : Index := 3#32
  let c0_i32 : BitVec 32 := 0#32
  let c1_i32 : BitVec 32 := 1#32
  let arg11 : BitVec 32 := Scf.iv c0_i32 c1_i32 k1_t1
  let v60 : Index := Scalar.indexCast arg11
  ![0, 3, v60.toNat]
def k1_off8 (k1_t1 : Fin k1_t1_loop.trips) : Fin 3 → Nat :=
  let c0_51 : Index := 0#32
  let c4 : Index := 4#32
  let c0_i32 : BitVec 32 := 0#32
  let c1_i32 : BitVec 32 := 1#32
  let arg11 : BitVec 32 := Scf.iv c0_i32 c1_i32 k1_t1
  let v62 : Index := Scalar.indexCast arg11
  ![0, 4, v62.toNat]
def k1_off9 (k1_t1 : Fin k1_t1_loop.trips) : Fin 3 → Nat :=
  let c0_52 : Index := 0#32
  let c5 : Index := 5#32
  let c0_i32 : BitVec 32 := 0#32
  let c1_i32 : BitVec 32 := 1#32
  let arg11 : BitVec 32 := Scf.iv c0_i32 c1_i32 k1_t1
  let v64 : Index := Scalar.indexCast arg11
  ![0, 5, v64.toNat]
def k1_off10 (v50 : BitVec 32) (v52 : BitVec 32) : Fin 4 → Nat :=
  let c0_56 : Index := 0#32
  let v103 : Index := Scalar.indexCast v50
  let v53 : BitVec 32 := v52
  let v104 : Index := Scalar.indexCast v53
  let c0_57 : Index := 0#32
  ![0, v103.toNat, v104.toNat, 0]

def k1_chk1 (v45 : BitVec 32) (v50 : BitVec 32) (v52 : BitVec 32) : Prop :=
  (∀ (k1_h1 : k1_cond1 v45 = 1#1), 8 ∣ (k1_mult1 v52).toNat) ∧
  (∀ (k1_h1 : k1_cond1 v45 = 1#1), ∀ a, (k1_off10 v50 v52) a + S1x1x32x180.size a ≤ S1x10x184x180.size a)
theorem k1_mult1_dvd : ∀ (v45 : BitVec 32) (v50 : BitVec 32) (v52 : BitVec 32) (k1_hw1 : k1_chk1 v45 v50 v52), ∀ (k1_h1 : k1_cond1 v45 = 1#1), 8 ∣ (k1_mult1 v52).toNat := fun v45 v50 v52 k1_hw1 k1_h1 => k1_hw1.1 k1_h1
theorem k1_off10_inb : ∀ (v45 : BitVec 32) (v50 : BitVec 32) (v52 : BitVec 32) (k1_hw1 : k1_chk1 v45 v50 v52), ∀ (k1_h1 : k1_cond1 v45 = 1#1), ∀ a, (k1_off10 v50 v52) a + S1x1x32x180.size a ≤ S1x10x184x180.size a := fun v45 v50 v52 k1_hw1 k1_h1 => k1_hw1.2 k1_h1

def k1_off11 (k1_t1 : Fin k1_t1_loop.trips) : Fin 3 → Nat :=
  let c0_60 : Index := 0#32
  let c3_61 : Index := 3#32
  let c0_i32 : BitVec 32 := 0#32
  let c1_i32 : BitVec 32 := 1#32
  let arg11 : BitVec 32 := Scf.iv c0_i32 c1_i32 k1_t1
  let v113 : Index := Scalar.indexCast arg11
  ![0, 3, v113.toNat]
def k1_mult2 (v114 : BitVec 32) : BitVec 32 :=
  v114

def k1_off12 (v114 : BitVec 32) : Fin 2 → Nat :=
  let c0_62 : Index := 0#32
  let v115 : BitVec 32 := v114
  let v116 : Index := Scalar.indexCast v115
  ![0, v116.toNat]
def k1_off13 (v52 : BitVec 32) (v114 : BitVec 32) : Fin 3 → Nat :=
  let c0_65 : Index := 0#32
  let v53 : BitVec 32 := v52
  let v139 : Index := Scalar.indexCast v53
  let v115 : BitVec 32 := v114
  let v140 : Index := Scalar.indexCast v115
  ![0, v139.toNat, v140.toNat]

def k1_chk2 (v45 : BitVec 32) (v52 : BitVec 32) (v114 : BitVec 32) : Prop :=
  (∀ (k1_h1 : k1_cond1 v45 = 1#1), 128 ∣ (k1_mult2 v114).toNat) ∧
  (∀ (k1_h1 : k1_cond1 v45 = 1#1), ∀ a, (k1_off12 v114) a + S1x384.size a ≤ S1x1920.size a) ∧
  (∀ (k1_h1 : k1_cond1 v45 = 1#1), ∀ a, (k1_off13 v52 v114) a + S1x32x384.size a ≤ S1x184x1920.size a)
theorem k1_mult2_dvd : ∀ (v45 : BitVec 32) (v52 : BitVec 32) (v114 : BitVec 32) (k1_hw2 : k1_chk2 v45 v52 v114), ∀ (k1_h1 : k1_cond1 v45 = 1#1), 128 ∣ (k1_mult2 v114).toNat := fun v45 v52 v114 k1_hw2 k1_h1 => k1_hw2.1 k1_h1
theorem k1_off12_inb : ∀ (v45 : BitVec 32) (v52 : BitVec 32) (v114 : BitVec 32) (k1_hw2 : k1_chk2 v45 v52 v114), ∀ (k1_h1 : k1_cond1 v45 = 1#1), ∀ a, (k1_off12 v114) a + S1x384.size a ≤ S1x1920.size a := fun v45 v52 v114 k1_hw2 k1_h1 => k1_hw2.2.1 k1_h1
theorem k1_off13_inb : ∀ (v45 : BitVec 32) (v52 : BitVec 32) (v114 : BitVec 32) (k1_hw2 : k1_chk2 v45 v52 v114), ∀ (k1_h1 : k1_cond1 v45 = 1#1), ∀ a, (k1_off13 v52 v114) a + S1x32x384.size a ≤ S1x184x1920.size a := fun v45 v52 v114 k1_hw2 k1_h1 => k1_hw2.2.2 k1_h1

def k1_off14 (k1_t1 : Fin k1_t1_loop.trips) : Fin 3 → Nat :=
  let c0_69 : Index := 0#32
  let c6 : Index := 6#32
  let c0_i32 : BitVec 32 := 0#32
  let c1_i32 : BitVec 32 := 1#32
  let arg11 : BitVec 32 := Scf.iv c0_i32 c1_i32 k1_t1
  let v153 : Index := Scalar.indexCast arg11
  ![0, 6, v153.toNat]
def k1_off15 (k1_t1 : Fin k1_t1_loop.trips) : Fin 3 → Nat :=
  let c0_71 : Index := 0#32
  let c7 : Index := 7#32
  let c0_i32 : BitVec 32 := 0#32
  let c1_i32 : BitVec 32 := 1#32
  let arg11 : BitVec 32 := Scf.iv c0_i32 c1_i32 k1_t1
  let v157 : Index := Scalar.indexCast arg11
  ![0, 7, v157.toNat]
def k1_off16 (k1_t1 : Fin k1_t1_loop.trips) : Fin 3 → Nat :=
  let c0_73 : Index := 0#32
  let c8 : Index := 8#32
  let c0_i32 : BitVec 32 := 0#32
  let c1_i32 : BitVec 32 := 1#32
  let arg11 : BitVec 32 := Scf.iv c0_i32 c1_i32 k1_t1
  let v161 : Index := Scalar.indexCast arg11
  ![0, 8, v161.toNat]
def k1_off17 (k1_t1 : Fin k1_t1_loop.trips) : Fin 3 → Nat :=
  let c0_75 : Index := 0#32
  let c9 : Index := 9#32
  let c0_i32 : BitVec 32 := 0#32
  let c1_i32 : BitVec 32 := 1#32
  let arg11 : BitVec 32 := Scf.iv c0_i32 c1_i32 k1_t1
  let v165 : Index := Scalar.indexCast arg11
  ![0, 9, v165.toNat]
def k1_off18 (k1_t1 : Fin k1_t1_loop.trips) : Fin 3 → Nat :=
  let c0_77 : Index := 0#32
  let c10 : Index := 10#32
  let c0_i32 : BitVec 32 := 0#32
  let c1_i32 : BitVec 32 := 1#32
  let arg11 : BitVec 32 := Scf.iv c0_i32 c1_i32 k1_t1
  let v169 : Index := Scalar.indexCast arg11
  ![0, 10, v169.toNat]
def k1_off19 (k1_t1 : Fin k1_t1_loop.trips) : Fin 3 → Nat :=
  let c0_79 : Index := 0#32
  let c11 : Index := 11#32
  let c0_i32 : BitVec 32 := 0#32
  let c1_i32 : BitVec 32 := 1#32
  let arg11 : BitVec 32 := Scf.iv c0_i32 c1_i32 k1_t1
  let v173 : Index := Scalar.indexCast arg11
  ![0, 11, v173.toNat]
def k1_off20 (k1_t1 : Fin k1_t1_loop.trips) : Fin 3 → Nat :=
  let c0_81 : Index := 0#32
  let c12 : Index := 12#32
  let c0_i32 : BitVec 32 := 0#32
  let c1_i32 : BitVec 32 := 1#32
  let arg11 : BitVec 32 := Scf.iv c0_i32 c1_i32 k1_t1
  let v177 : Index := Scalar.indexCast arg11
  ![0, 12, v177.toNat]
def k1_off21 (k1_t1 : Fin k1_t1_loop.trips) : Fin 3 → Nat :=
  let c0_82 : Index := 0#32
  let c13 : Index := 13#32
  let c0_i32 : BitVec 32 := 0#32
  let c1_i32 : BitVec 32 := 1#32
  let arg11 : BitVec 32 := Scf.iv c0_i32 c1_i32 k1_t1
  let v179 : Index := Scalar.indexCast arg11
  ![0, 13, v179.toNat]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x10x180x180 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x14x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .smem S1x4x50 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1920 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1920 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x10x180x180 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x10x184x180 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x184x1920 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x184x1920 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .smem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S8x50x10 : Shape := ⟨3, ![8, 50, 10]⟩
abbrev S8x10x180x180 : Shape := ⟨4, ![8, 10, 180, 180]⟩
abbrev S8x2x180x180 : Shape := ⟨4, ![8, 2, 180, 180]⟩
abbrev S8x1x180x180 : Shape := ⟨4, ![8, 1, 180, 180]⟩
abbrev S8x3x180x180 : Shape := ⟨4, ![8, 3, 180, 180]⟩
abbrev S180 : Shape := ⟨1, ![180]⟩
abbrev S180x180 : Shape := ⟨2, ![180, 180]⟩
abbrev S8x50x1 : Shape := ⟨3, ![8, 50, 1]⟩
abbrev S8x50 : Shape := ⟨2, ![8, 50]⟩
abbrev S_ : Shape := ⟨0, ![]⟩
abbrev S1x1x180x180 : Shape := ⟨4, ![1, 1, 180, 180]⟩
abbrev S8x50x1x1 : Shape := ⟨4, ![8, 50, 1, 1]⟩
abbrev S8x50x180x180 : Shape := ⟨4, ![8, 50, 180, 180]⟩
abbrev S10 : Shape := ⟨1, ![10]⟩
abbrev S1x1x10 : Shape := ⟨3, ![1, 1, 10]⟩
abbrev S8x50x10x1x1 : Shape := ⟨5, ![8, 50, 10, 1, 1]⟩
abbrev S8x50x1x180x180 : Shape := ⟨5, ![8, 50, 1, 180, 180]⟩
abbrev S8x50x10x180x180 : Shape := ⟨5, ![8, 50, 10, 180, 180]⟩
abbrev S8x50x3 : Shape := ⟨3, ![8, 50, 3]⟩
abbrev S8x50x2 : Shape := ⟨3, ![8, 50, 2]⟩
abbrev S8x50x8 : Shape := ⟨3, ![8, 50, 8]⟩
abbrev S50 : Shape := ⟨1, ![50]⟩
abbrev S1x50x1x1 : Shape := ⟨4, ![1, 50, 1, 1]⟩
abbrev S8x180x180 : Shape := ⟨3, ![8, 180, 180]⟩
abbrev S8x50x180x180x1 : Shape := ⟨5, ![8, 50, 180, 180, 1]⟩
abbrev S8x50x1x1x8 : Shape := ⟨5, ![8, 50, 1, 1, 8]⟩
abbrev S8x50x180x180x8 : Shape := ⟨5, ![8, 50, 180, 180, 8]⟩
abbrev S8x50x180x180x10 : Shape := ⟨5, ![8, 50, 180, 180, 10]⟩
abbrev S8x180x180x10 : Shape := ⟨4, ![8, 180, 180, 10]⟩
abbrev S8x180x180x1 : Shape := ⟨4, ![8, 180, 180, 1]⟩
abbrev S1x1x1x10 : Shape := ⟨4, ![1, 1, 1, 10]⟩

abbrev nBuf : Space → Nat
  | .hbm => 280
  | .vmem => 0
  | .smem => 0
  | _ => 0

abbrev hbmTy0_0 (i : Nat) : BufTy := match i % 128 with
  | 0 => ⟨S8x50x10, .f32⟩
  | 1 => ⟨S8x10x180x180, .f32⟩
  | 2 => ⟨S8x2x180x180, .f32⟩
  | 3 => ⟨S8x1x180x180, .f32⟩
  | 4 => ⟨S8x3x180x180, .f32⟩
  | 5 => ⟨S8x2x180x180, .f32⟩
  | 6 => ⟨S8x2x180x180, .f32⟩
  | 7 => ⟨S180, .f32⟩
  | 8 => ⟨S180, .f32⟩
  | 9 => ⟨S180x180, .f32⟩
  | 10 => ⟨S180x180, .f32⟩
  | 11 => ⟨S8x50x1, .f32⟩
  | 12 => ⟨S8x50, .f32⟩
  | 13 => ⟨S_, .f32⟩
  | 14 => ⟨S8x50, .f32⟩
  | 15 => ⟨S8x50, .f32⟩
  | 16 => ⟨S8x50x1, .f32⟩
  | 17 => ⟨S8x50, .f32⟩
  | 18 => ⟨S_, .f32⟩
  | 19 => ⟨S8x50, .f32⟩
  | 20 => ⟨S8x50, .f32⟩
  | 21 => ⟨S8x50x1, .f32⟩
  | 22 => ⟨S8x50, .f32⟩
  | 23 => ⟨S_, .f32⟩
  | 24 => ⟨S8x50, .f32⟩
  | 25 => ⟨S8x50, .f32⟩
  | 26 => ⟨S8x50x1, .f32⟩
  | 27 => ⟨S8x50, .f32⟩
  | 28 => ⟨S_, .f32⟩
  | 29 => ⟨S8x50, .f32⟩
  | 30 => ⟨S8x50, .f32⟩
  | 31 => ⟨S8x50x1, .f32⟩
  | 32 => ⟨S8x50, .f32⟩
  | 33 => ⟨S8x50, .i32⟩
  | 34 => ⟨S8x50, .f32⟩
  | 35 => ⟨S8x50, .f32⟩
  | 36 => ⟨S_, .f32⟩
  | 37 => ⟨S8x50, .f32⟩
  | 38 => ⟨S8x50, .f32⟩
  | 39 => ⟨S_, .f32⟩
  | 40 => ⟨S8x50, .f32⟩
  | 41 => ⟨S8x50, .f32⟩
  | 42 => ⟨S8x50, .f32⟩
  | 43 => ⟨S_, .f32⟩
  | 44 => ⟨S8x50, .f32⟩
  | 45 => ⟨S8x50, .f32⟩
  | 46 => ⟨S8x50, .f32⟩
  | 47 => ⟨S_, .f32⟩
  | 48 => ⟨S8x50, .f32⟩
  | 49 => ⟨S8x50, .f32⟩
  | 50 => ⟨S8x50, .f32⟩
  | 51 => ⟨S8x50, .f32⟩
  | 52 => ⟨S_, .f32⟩
  | 53 => ⟨S8x50, .f32⟩
  | 54 => ⟨S8x50, .f32⟩
  | 55 => ⟨S8x50, .f32⟩
  | 56 => ⟨S_, .f32⟩
  | 57 => ⟨S8x50, .f32⟩
  | 58 => ⟨S8x50, .f32⟩
  | 59 => ⟨S_, .f32⟩
  | 60 => ⟨S8x50, .f32⟩
  | 61 => ⟨S8x50, .f32⟩
  | 62 => ⟨S8x50, .f32⟩
  | 63 => ⟨S8x50, .f32⟩
  | 64 => ⟨S_, .f32⟩
  | 65 => ⟨S8x50, .f32⟩
  | 66 => ⟨S8x50, .f32⟩
  | 67 => ⟨S8x50, .f32⟩
  | 68 => ⟨S_, .f32⟩
  | 69 => ⟨S8x50, .f32⟩
  | 70 => ⟨S8x50, .f32⟩
  | 71 => ⟨S8x50, .f32⟩
  | 72 => ⟨S8x50, .f32⟩
  | 73 => ⟨S_, .f32⟩
  | 74 => ⟨S8x50, .f32⟩
  | 75 => ⟨S8x50, .f32⟩
  | 76 => ⟨S8x50, .f32⟩
  | 77 => ⟨S_, .f32⟩
  | 78 => ⟨S8x50, .f32⟩
  | 79 => ⟨S8x50, .f32⟩
  | 80 => ⟨S_, .f32⟩
  | 81 => ⟨S8x50, .f32⟩
  | 82 => ⟨S8x50, .f32⟩
  | 83 => ⟨S8x50, .f32⟩
  | 84 => ⟨S8x50, .f32⟩
  | 85 => ⟨S_, .f32⟩
  | 86 => ⟨S8x50, .f32⟩
  | 87 => ⟨S8x50, .f32⟩
  | 88 => ⟨S8x50, .f32⟩
  | 89 => ⟨S_, .f32⟩
  | 90 => ⟨S8x50, .f32⟩
  | 91 => ⟨S8x50, .f32⟩
  | 92 => ⟨S8x50, .f32⟩
  | 93 => ⟨S8x50, .f32⟩
  | 94 => ⟨S_, .f32⟩
  | 95 => ⟨S8x50, .f32⟩
  | 96 => ⟨S8x50, .f32⟩
  | 97 => ⟨S8x50, .f32⟩
  | 98 => ⟨S8x50, .f32⟩
  | 99 => ⟨S8x50, .f32⟩
  | 100 => ⟨S_, .f32⟩
  | 101 => ⟨S8x50, .f32⟩
  | 102 => ⟨S8x50, .f32⟩
  | 103 => ⟨S8x50, .f32⟩
  | 104 => ⟨S8x50, .f32⟩
  | 105 => ⟨S_, .f32⟩
  | 106 => ⟨S8x50, .f32⟩
  | 107 => ⟨S8x50, .i1⟩
  | 108 => ⟨S_, .f32⟩
  | 109 => ⟨S8x50, .f32⟩
  | 110 => ⟨S8x50, .i1⟩
  | 111 => ⟨S8x50, .i1⟩
  | 112 => ⟨S_, .f32⟩
  | 113 => ⟨S8x50, .f32⟩
  | 114 => ⟨S8x50, .i1⟩
  | 115 => ⟨S8x50, .i1⟩
  | 116 => ⟨S_, .f32⟩
  | 117 => ⟨S8x50, .f32⟩
  | 118 => ⟨S8x50, .i1⟩
  | 119 => ⟨S8x50, .i1⟩
  | 120 => ⟨S_, .f32⟩
  | 121 => ⟨S8x50, .f32⟩
  | 122 => ⟨S8x50, .i1⟩
  | 123 => ⟨S8x50, .i1⟩
  | 124 => ⟨S_, .f32⟩
  | 125 => ⟨S8x50, .f32⟩
  | 126 => ⟨S8x50, .i1⟩
  | 127 => ⟨S8x50, .i1⟩
  | _ => ⟨S8x50x10, .f32⟩

abbrev hbmTy0_1 (i : Nat) : BufTy := match i % 128 with
  | 0 => ⟨S_, .f32⟩
  | 1 => ⟨S8x50, .f32⟩
  | 2 => ⟨S8x50, .f32⟩
  | 3 => ⟨S_, .f32⟩
  | 4 => ⟨S8x50, .f32⟩
  | 5 => ⟨S8x50, .f32⟩
  | 6 => ⟨S_, .f32⟩
  | 7 => ⟨S8x50, .f32⟩
  | 8 => ⟨S8x50, .f32⟩
  | 9 => ⟨S1x1x180x180, .f32⟩
  | 10 => ⟨S8x50x1x1, .f32⟩
  | 11 => ⟨S8x50x180x180, .f32⟩
  | 12 => ⟨S8x50x180x180, .f32⟩
  | 13 => ⟨S8x50x180x180, .f32⟩
  | 14 => ⟨S1x1x180x180, .f32⟩
  | 15 => ⟨S8x50x1x1, .f32⟩
  | 16 => ⟨S8x50x180x180, .f32⟩
  | 17 => ⟨S8x50x180x180, .f32⟩
  | 18 => ⟨S8x50x180x180, .f32⟩
  | 19 => ⟨S8x50x180x180, .f32⟩
  | 20 => ⟨S8x50x180x180, .f32⟩
  | 21 => ⟨S8x50x180x180, .f32⟩
  | 22 => ⟨S8x50x180x180, .f32⟩
  | 23 => ⟨S_, .f32⟩
  | 24 => ⟨S8x50, .f32⟩
  | 25 => ⟨S8x50, .f32⟩
  | 26 => ⟨S8x50, .f32⟩
  | 27 => ⟨S8x50x1x1, .f32⟩
  | 28 => ⟨S8x50x180x180, .f32⟩
  | 29 => ⟨S8x50x180x180, .f32⟩
  | 30 => ⟨S8x50x180x180, .f32⟩
  | 31 => ⟨S8x50x180x180, .f32⟩
  | 32 => ⟨S8x50x1x1, .f32⟩
  | 33 => ⟨S8x50x180x180, .f32⟩
  | 34 => ⟨S8x50x180x180, .i1⟩
  | 35 => ⟨S8x50x180x180, .f32⟩
  | 36 => ⟨S8x50x1x1, .f32⟩
  | 37 => ⟨S8x50x180x180, .f32⟩
  | 38 => ⟨S8x50x180x180, .i1⟩
  | 39 => ⟨S8x50x180x180, .i1⟩
  | 40 => ⟨S8x50x1x1, .i1⟩
  | 41 => ⟨S8x50x180x180, .i1⟩
  | 42 => ⟨S8x50x180x180, .i1⟩
  | 43 => ⟨S_, .f32⟩
  | 44 => ⟨S_, .f32⟩
  | 45 => ⟨S8x50x180x180, .f32⟩
  | 46 => ⟨S8x50x180x180, .f32⟩
  | 47 => ⟨S10, .i32⟩
  | 48 => ⟨S8x50x1, .i32⟩
  | 49 => ⟨S1x1x10, .i32⟩
  | 50 => ⟨S8x50x10, .i32⟩
  | 51 => ⟨S8x50x10, .i32⟩
  | 52 => ⟨S8x50x10, .i1⟩
  | 53 => ⟨S8x50x10x1x1, .i1⟩
  | 54 => ⟨S8x50x1x180x180, .f32⟩
  | 55 => ⟨S_, .f32⟩
  | 56 => ⟨S_, .f32⟩
  | 57 => ⟨S8x50x10x180x180, .i1⟩
  | 58 => ⟨S8x50x10x180x180, .f32⟩
  | 59 => ⟨S8x50x10x180x180, .f32⟩
  | 60 => ⟨S8x50x10x180x180, .f32⟩
  | 61 => ⟨S_, .f32⟩
  | 62 => ⟨S8x10x180x180, .f32⟩
  | 63 => ⟨S8x50x1, .f32⟩
  | 64 => ⟨S8x50, .f32⟩
  | 65 => ⟨S8x50x3, .f32⟩
  | 66 => ⟨S_, .f32⟩
  | 67 => ⟨S8x50x3, .f32⟩
  | 68 => ⟨S8x50x3, .f32⟩
  | 69 => ⟨S8x50x3, .f32⟩
  | 70 => ⟨S8x50x1, .f32⟩
  | 71 => ⟨S8x50, .f32⟩
  | 72 => ⟨S8x50, .f32⟩
  | 73 => ⟨S8x50x1, .f32⟩
  | 74 => ⟨S8x50, .f32⟩
  | 75 => ⟨S8x50, .f32⟩
  | 76 => ⟨S8x50x2, .f32⟩
  | 77 => ⟨S8x50x1, .f32⟩
  | 78 => ⟨S8x50x1, .f32⟩
  | 79 => ⟨S8x50x1, .f32⟩
  | 80 => ⟨S8x50x8, .f32⟩
  | 81 => ⟨S50, .i32⟩
  | 82 => ⟨S1x50x1x1, .i32⟩
  | 83 => ⟨S8x50x1x1, .i1⟩
  | 84 => ⟨S8x50x180x180, .i1⟩
  | 85 => ⟨S8x50x180x180, .i1⟩
  | 86 => ⟨S_, .i32⟩
  | 87 => ⟨S_, .i32⟩
  | 88 => ⟨S8x50x180x180, .i32⟩
  | 89 => ⟨S8x50x180x180, .i32⟩
  | 90 => ⟨S8x50x180x180, .i32⟩
  | 91 => ⟨S_, .i32⟩
  | 92 => ⟨S8x180x180, .i32⟩
  | 93 => ⟨S8x1x180x180, .i32⟩
  | 94 => ⟨S8x50x180x180, .i32⟩
  | 95 => ⟨S8x50x180x180, .i32⟩
  | 96 => ⟨S8x50x180x180, .i1⟩
  | 97 => ⟨S8x50x180x180, .i1⟩
  | 98 => ⟨S8x50x1x1, .f32⟩
  | 99 => ⟨S1x1x180x180, .f32⟩
  | 100 => ⟨S8x50x180x180, .f32⟩
  | 101 => ⟨S8x50x180x180, .f32⟩
  | 102 => ⟨S8x50x180x180, .f32⟩
  | 103 => ⟨S8x50x1x1, .f32⟩
  | 104 => ⟨S1x1x180x180, .f32⟩
  | 105 => ⟨S8x50x180x180, .f32⟩
  | 106 => ⟨S8x50x180x180, .f32⟩
  | 107 => ⟨S8x50x180x180, .f32⟩
  | 108 => ⟨S8x50x180x180x1, .f32⟩
  | 109 => ⟨S8x50x180x180x1, .f32⟩
  | 110 => ⟨S8x50x1x1x8, .f32⟩
  | 111 => ⟨S8x50x180x180x8, .f32⟩
  | 112 => ⟨S8x50x180x180x10, .f32⟩
  | 113 => ⟨S8x50x180x180x1, .i1⟩
  | 114 => ⟨S_, .f32⟩
  | 115 => ⟨S_, .f32⟩
  | 116 => ⟨S8x50x180x180x10, .i1⟩
  | 117 => ⟨S8x50x180x180x10, .f32⟩
  | 118 => ⟨S8x50x180x180x10, .f32⟩
  | 119 => ⟨S_, .f32⟩
  | 120 => ⟨S8x180x180x10, .f32⟩
  | 121 => ⟨S8x10x180x180, .f32⟩
  | 122 => ⟨S8x10x180x180, .f32⟩
  | 123 => ⟨S_, .f32⟩
  | 124 => ⟨S8x10x180x180, .f32⟩
  | 125 => ⟨S8x10x180x180, .f32⟩
  | 126 => ⟨S_, .f32⟩
  | 127 => ⟨S8x10x180x180, .f32⟩
  | _ => ⟨S8x50x10, .f32⟩

abbrev hbmTy0_2 (i : Nat) : BufTy := match i % 128 with
  | 0 => ⟨S8x10x180x180, .f32⟩
  | 1 => ⟨S_, .f32⟩
  | 2 => ⟨S_, .f32⟩
  | 3 => ⟨S_, .f32⟩
  | 4 => ⟨S8x10x180x180, .f32⟩
  | 5 => ⟨S8x10x180x180, .f32⟩
  | 6 => ⟨S_, .f32⟩
  | 7 => ⟨S8x10x180x180, .f32⟩
  | 8 => ⟨S8x10x180x180, .f32⟩
  | 9 => ⟨S8x10x180x180, .f32⟩
  | 10 => ⟨S8x180x180x10, .f32⟩
  | 11 => ⟨S_, .f32⟩
  | 12 => ⟨S8x180x180, .f32⟩
  | 13 => ⟨S_, .f32⟩
  | 14 => ⟨S_, .f32⟩
  | 15 => ⟨S_, .f32⟩
  | 16 => ⟨S_, .f32⟩
  | 17 => ⟨S_, .f32⟩
  | 18 => ⟨S10, .f32⟩
  | 19 => ⟨S8x180x180x1, .f32⟩
  | 20 => ⟨S1x1x1x10, .f32⟩
  | 21 => ⟨S8x180x180x10, .f32⟩
  | 22 => ⟨S8x180x180x10, .f32⟩
  | 23 => ⟨S8x180x180x10, .f32⟩
  | _ => ⟨S8x50x10, .f32⟩

abbrev hbmTy (i : Nat) : BufTy := match i / 128 with
  | 0 => hbmTy0_0 i
  | 1 => hbmTy0_1 i
  | 2 => hbmTy0_2 i
  | _ => ⟨S8x50x10, .f32⟩

abbrev bufTy : (tb : Table) → Fin (tcTables nBuf tb) → BufTy
  | .hbm, ⟨i, _⟩ => hbmTy i
  | _, _ => ⟨S8x50x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_17 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_19 : Ref sig .tc := ⟨.hbm, 105, rfl⟩
abbrev main_v78 : Ref sig .tc := ⟨.hbm, 106, rfl⟩
abbrev main_v79 : Ref sig .tc := ⟨.hbm, 107, rfl⟩
abbrev main_cst_20 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_21 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_22 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_23 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_24 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_25 : Ref sig .tc := ⟨.hbm, 128, rfl⟩
abbrev main_v95 : Ref sig .tc := ⟨.hbm, 129, rfl⟩
abbrev main_v96 : Ref sig .tc := ⟨.hbm, 130, rfl⟩
abbrev main_cst_26 : Ref sig .tc := ⟨.hbm, 131, rfl⟩
abbrev main_v97 : Ref sig .tc := ⟨.hbm, 132, rfl⟩
abbrev main_v98 : Ref sig .tc := ⟨.hbm, 133, rfl⟩
abbrev main_cst_27 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_28 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_29 : Ref sig .tc := ⟨.hbm, 171, rfl⟩
abbrev main_call0_v0 : Ref sig .tc := ⟨.hbm, 172, rfl⟩
abbrev main_call0_v1 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_30 : Ref sig .tc := ⟨.hbm, 183, rfl⟩
abbrev main_call1_v0 : Ref sig .tc := ⟨.hbm, 184, rfl⟩
abbrev main_call1_v1 : Ref sig .tc := ⟨.hbm, 185, rfl⟩
abbrev main_call1_v2 : Ref sig .tc := ⟨.hbm, 186, rfl⟩
abbrev main_call1_v3 : Ref sig .tc := ⟨.hbm, 187, rfl⟩
abbrev main_v143 : Ref sig .tc := ⟨.hbm, 188, rfl⟩
abbrev main_cst_31 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_32 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_c : Ref sig .tc := ⟨.hbm, 214, rfl⟩
abbrev main_call2_v0 : Ref sig .tc := ⟨.hbm, 215, rfl⟩
abbrev main_call2_v1 : Ref sig .tc := ⟨.hbm, 216, rfl⟩
abbrev main_call2_v2 : Ref sig .tc := ⟨.hbm, 217, rfl⟩
abbrev main_v167 : Ref sig .tc := ⟨.hbm, 218, rfl⟩
abbrev main_c_33 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_cst_34 : Ref sig .tc := ⟨.hbm, 242, rfl⟩
abbrev main_call3_v0 : Ref sig .tc := ⟨.hbm, 243, rfl⟩
abbrev main_call3_v1 : Ref sig .tc := ⟨.hbm, 244, rfl⟩
abbrev main_call3_v2 : Ref sig .tc := ⟨.hbm, 245, rfl⟩
abbrev main_v190 : Ref sig .tc := ⟨.hbm, 246, rfl⟩
abbrev main_cst_35 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_cst_36 : Ref sig .tc := ⟨.hbm, 251, rfl⟩
abbrev main_v194 : Ref sig .tc := ⟨.hbm, 252, rfl⟩
abbrev main_v195 : Ref sig .tc := ⟨.hbm, 253, rfl⟩
abbrev main_cst_37 : Ref sig .tc := ⟨.hbm, 254, rfl⟩
abbrev main_v196 : Ref sig .tc := ⟨.hbm, 255, rfl⟩
abbrev main_v197 : Ref sig .tc := ⟨.hbm, 256, rfl⟩
abbrev main_cst_38 : Ref sig .tc := ⟨.hbm, 257, rfl⟩
abbrev main_cst_39 : Ref sig .tc := ⟨.hbm, 258, rfl⟩
abbrev main_call4_v0 : Ref sig .tc := ⟨.hbm, 259, rfl⟩
abbrev main_call4_v1 : Ref sig .tc := ⟨.hbm, 260, rfl⟩
abbrev main_call4_v2 : Ref sig .tc := ⟨.hbm, 261, rfl⟩
abbrev main_call4_v3 : Ref sig .tc := ⟨.hbm, 262, rfl⟩
abbrev main_call4_v4 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_cst_40 : Ref sig .tc := ⟨.hbm, 267, rfl⟩
abbrev main_v201 : Ref sig .tc := ⟨.hbm, 268, rfl⟩
abbrev main_cst_41 : Ref sig .tc := ⟨.hbm, 269, rfl⟩
abbrev main_v202 : Ref sig .tc := ⟨.hbm, 270, rfl⟩
abbrev main_cst_42 : Ref sig .tc := ⟨.hbm, 271, rfl⟩
abbrev main_v203 : Ref sig .tc := ⟨.hbm, 272, rfl⟩
abbrev main_cst_43 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩

abbrev nD : Nat := 1
abbrev τ : Topo := Topo.v7x

variable {F : FTy → Type} [FloatOps F]
-- ==== Proof.Ref.lean ====
module

public import proofs.«01_k».proof.Proof.Gen.ReferenceIdeal.Run

@[expose] public section
end
-- ==== Proof.KernelIdealTrip.lean ====
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Tactic

/-! # The object loop of the main call

One trip of the loop over the objects of a batch entry: the words it reads, the three windows it writes when the
object is valid, and the loop's invariant over them. -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the launch: the transfer cells', beside a spare factor. -/
abbrev UU (nD : ℕ) (τ : Topo) := UR sig nD τ × UR sig nD τ

local notation "𝕄" => MT nD τ sig Unit (Elt F) ℕ (UU nD τ) ℕ

/-- No call variants. -/
abbrev 𝒱₀ : Variants := Variants.none

section
variable (c : Dev nD) (i : grid1.Coords)
  (arg1 : Memref sig .tc .vmem S1x10x180x180 .f32) (harg1 : arg1.IsWhole)
  (arg2 : Memref sig .tc .smem S1x14x50 .f32) (harg2 : arg2.IsWhole)
  (arg3 : Memref sig .tc .smem S1x4x50 .i32) (harg3 : arg3.IsWhole)
  (arg4 : Memref sig .tc .vmem S1x1920 .f32) (harg4 : arg4.IsWhole)
  (arg5 : Memref sig .tc .vmem S1x1920 .f32) (harg5 : arg5.IsWhole)
  (arg6 : Memref sig .tc .vmem S1x10x180x180 .f32) (harg6 : arg6.IsWhole)
  (arg7 : Memref sig .tc .vmem S1x10x184x180 .f32) (harg7 : arg7.IsWhole)
  (arg8 : Memref sig .tc .vmem S1x184x1920 .f32) (harg8 : arg8.IsWhole)
  (arg9 : Memref sig .tc .vmem S1x184x1920 .f32) (harg9 : arg9.IsWhole)
  (arg10 : Memref sig .tc .smem S1x1 .f32) (harg10 : arg10.IsWhole)

variable (gp : Buf (Elt F) (arg2.view.loc (c : Thread nD τ))) (gi : Buf (Elt F) (arg3.view.loc (c : Thread nD τ)))
  (gx : Buf (Elt F) (arg4.view.loc (c : Thread nD τ))) (gy : Buf (Elt F) (arg5.view.loc (c : Thread nD τ)))

section
variable (k : Fin k1_t1_loop.trips)

/-- A word of the object table of integers. -/
abbrev iw (off : Fin 3 → ℕ) (h : ∀ a, off a + S1x1x1.size a ≤ S1x4x50.size a) : BitVec 32 :=
  arg3.view.readAt (Elt F) (Rect.unit (s := S1x4x50) off S1x1x1.size h).toLoadRect gi (Shape.Idx.first (s := S1x1x1) (by decide))
/-- A word of the object table of floats. -/
abbrev fw (off : Fin 3 → ℕ) (h : ∀ a, off a + S1x1x1.size a ≤ S1x14x50.size a) : F .f32 :=
  arg2.view.readAt (Elt F) (Rect.unit (s := S1x14x50) off S1x1x1.size h).toLoadRect gp (Shape.Idx.first (s := S1x1x1) (by decide))

/-- Is the object valid (one or zero). -/
abbrev wValid : BitVec 32 := iw (F := F) c arg3 gi (k1_off1 k) (k1_off1_inb k)
/-- The object's class. -/
abbrev wCls : BitVec 32 := iw (F := F) c arg3 gi (k1_off2 k) (k1_off2_inb k)
/-- The first row of the object's window. -/
abbrev wRow : BitVec 32 := iw (F := F) c arg3 gi (k1_off3 k) (k1_off3_inb k)
/-- The first lane of the object's window. -/
abbrev wLane : BitVec 32 := iw (F := F) c arg3 gi (k1_off11 k) (k1_off11_inb k)

/-- What the trip needs of the integers of its object: a valid object's window lies within the blocks. -/
def TripOK : Prop :=
  k1_cond1 (wValid (F := F) c arg3 gi k) = 1#1 →
    k1_chk1 (wValid (F := F) c arg3 gi k) (wCls (F := F) c arg3 gi k) (wRow (F := F) c arg3 gi k)
      ∧ k1_chk2 (wValid (F := F) c arg3 gi k) (wRow (F := F) c arg3 gi k) (wLane (F := F) c arg3 gi k)

variable (h1 : k1_cond1 (wValid (F := F) c arg3 gi k) = 1#1) (hok : TripOK (F := F) c arg3 gi k)
  (f7 : Buf (Elt F) (arg7.view.loc (c : Thread nD τ))) (f8 : Buf (Elt F) (arg8.view.loc (c : Thread nD τ)))
  (f9 : Buf (Elt F) (arg9.view.loc (c : Thread nD τ)))

/-- The heatmap window of a valid object. -/
abbrev R7 : Rect S1x10x184x180 :=
  Rect.unit (s := S1x10x184x180) (k1_off10 (wCls (F := F) c arg3 gi k) (wRow (F := F) c arg3 gi k)) S1x1x32x180.size (k1_off10_inb _ _ _ (hok h1).1 h1)
/-- The target window of a valid object. -/
abbrev R8 : Rect S1x184x1920 :=
  Rect.unit (s := S1x184x1920) (k1_off13 (wRow (F := F) c arg3 gi k) (wLane (F := F) c arg3 gi k)) S1x32x384.size (k1_off13_inb _ _ _ (hok h1).2 h1)
/-- The coordinate lanes of a valid object. -/
abbrev R4 : Rect S1x1920 :=
  Rect.unit (s := S1x1920) (k1_off12 (wLane (F := F) c arg3 gi k)) S1x384.size (k1_off12_inb _ _ _ (hok h1).2 h1)

/-- The x coordinate of each lane of the window. -/
abbrev vX : Vec F S1x384 .f32 := arg4.view.readAt (Elt F) (R4 (F := F) c arg3 gi k h1 hok).toLoadRect gx
/-- The channel of each lane of the window. -/
abbrev vQ : Vec F S1x384 .f32 := arg5.view.readAt (Elt F) (R4 (F := F) c arg3 gi k h1 hok).toLoadRect gy

abbrev wIcx : F .f32 := fw c arg2 gp (k1_off6 k) (k1_off6_inb k)
abbrev wIcy : F .f32 := fw c arg2 gp (k1_off7 k) (k1_off7_inb k)
abbrev wRad : F .f32 := fw c arg2 gp (k1_off8 k) (k1_off8_inb k)
abbrev wInv : F .f32 := fw c arg2 gp (k1_off9 k) (k1_off9_inb k)

/-- What a valid object leaves in its heatmap window. -/
def w7 : FVec F S1x1x32x180 .f32 :=
  k1_pay9 (wInv c arg2 gp k) (k1_pay4 (wRow (F := F) c arg3 gi k) (wIcy c arg2 gp k) (wRad c arg2 gp k))
    (k1_pay5 (wRow (F := F) c arg3 gi k) (wIcy c arg2 gp k) (wInv c arg2 gp k))
    (k1_pay7 (wIcx c arg2 gp k) (wRad c arg2 gp k)) (k1_pay8 (wIcx c arg2 gp k)) (Scalar.ofBits .f32 0x00000000#32)
    (arg7.view.readAt (Elt F) (R7 (F := F) c arg3 gi k h1 hok).toLoadRect f7)

/-- What a valid object leaves in its weight window. -/
def w9 : FVec F S1x32x384 .f32 :=
  k1_pay17 (k1_pay13 (wIcx c arg2 gp k) (wInv c arg2 gp k) (k1_pay5 (wRow (F := F) c arg3 gi k) (wIcy c arg2 gp k) (wInv c arg2 gp k))
      (vX (F := F) c arg3 arg4 gi gx k h1 hok))
    (k1_pay14 (k1_pay4 (wRow (F := F) c arg3 gi k) (wIcy c arg2 gp k) (wRad c arg2 gp k)))
    (k1_pay15 (wIcx c arg2 gp k) (wRad c arg2 gp k) (vX (F := F) c arg3 arg4 gi gx k h1 hok))
    (arg9.view.readAt (Elt F) (R8 (F := F) c arg3 gi k h1 hok).toLoadRect f9)

/-- What a valid object leaves in its target window. -/
def w8 : FVec F S1x32x384 .f32 :=
  k1_pay24 (fw c arg2 gp (k1_off4 k) (k1_off4_inb k)) (fw c arg2 gp (k1_off5 k) (k1_off5_inb k))
    (k1_pay2 (wRow (F := F) c arg3 gi k)) (k1_pay10 (vX (F := F) c arg3 arg4 gi gx k h1 hok))
    (k1_pay11 (vQ (F := F) c arg3 arg5 gi gy k h1 hok))
    (k1_pay16 (k1_pay14 (k1_pay4 (wRow (F := F) c arg3 gi k) (wIcy c arg2 gp k) (wRad c arg2 gp k)))
      (k1_pay15 (wIcx c arg2 gp k) (wRad c arg2 gp k) (vX (F := F) c arg3 arg4 gi gx k h1 hok)))
    (k1_pay18 (k1_pay11 (vQ (F := F) c arg3 arg5 gi gy k h1 hok))) (fw c arg2 gp (k1_off14 k) (k1_off14_inb k))
    (k1_pay19 (k1_pay11 (vQ (F := F) c arg3 arg5 gi gy k h1 hok))) (fw c arg2 gp (k1_off15 k) (k1_off15_inb k))
    (k1_pay20 (k1_pay11 (vQ (F := F) c arg3 arg5 gi gy k h1 hok))) (fw c arg2 gp (k1_off16 k) (k1_off16_inb k))
    (k1_pay21 (k1_pay11 (vQ (F := F) c arg3 arg5 gi gy k h1 hok))) (fw c arg2 gp (k1_off17 k) (k1_off17_inb k))
    (k1_pay22 (k1_pay11 (vQ (F := F) c arg3 arg5 gi gy k h1 hok))) (fw c arg2 gp (k1_off18 k) (k1_off18_inb k))
    (k1_pay23 (k1_pay11 (vQ (F := F) c arg3 arg5 gi gy k h1 hok))) (fw c arg2 gp (k1_off19 k) (k1_off19_inb k))
    (Scalar.ofBits .f32 0x41000000#32)
    (fw c arg2 gp (k1_off20 k) (k1_off20_inb k)) (fw c arg2 gp (k1_off21 k) (k1_off21_inb k))
    (arg8.view.readAt (Elt F) (R8 (F := F) c arg3 gi k h1 hok).toLoadRect f8)

/-- The buffers of the loop: the two object tables, the two coordinate rows, the three blocks written. -/
def res : sProp 𝕄 :=
  iprop((arg2.view.loc (c : Thread nD τ) ↦[arg2.view.set]{fullShare} gp)
    ∗ (arg3.view.loc (c : Thread nD τ) ↦[arg3.view.set]{fullShare} gi)
    ∗ (arg4.view.loc (c : Thread nD τ) ↦[arg4.view.set]{fullShare} gx)
    ∗ (arg5.view.loc (c : Thread nD τ) ↦[arg5.view.set]{fullShare} gy)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9))

/-- A trip of the loop. -/
abbrev trip : Prog (TpuEff nD τ sig (Elt F) Λ₀ .tc) Unit :=
  k1_t1_body (F := F) i arg1 harg1 arg2 harg2 arg3 harg3 arg4 harg4 arg5 harg5 arg6 harg6 arg7 harg7 arg8 harg8 arg9 harg9 arg10 harg10 0#32 k ()

set_option backward.proofsInPublic true in
/-- A trip at a valid object: its three windows are written. -/
theorem trip_valid :
    res (F := F) c arg2 arg3 arg4 arg5 arg7 arg8 arg9 gp gi gx gy f7 f8 f9
      ⊢ wp frame (wpE (defs₀ (F := F)) 𝒱₀ (c : Thread nD τ) none) Set.univ
          (trip i arg1 harg1 arg2 harg2 arg3 harg3 arg4 harg4 arg5 harg5 arg6 harg6 arg7 harg7 arg8 harg8 arg9 harg9 arg10 harg10 k)
          (fun _ => res (F := F) c arg2 arg3 arg4 arg5 arg7 arg8 arg9 gp gi gx gy
            (arg7.view.writes (Elt F) f7 [⟨R7 (F := F) c arg3 gi k h1 hok, w7 (F := F) c arg2 arg3 arg7 gp gi k h1 hok f7⟩])
            (arg8.view.writes (Elt F) f8 [⟨R8 (F := F) c arg3 gi k h1 hok, w8 (F := F) c arg2 arg3 arg4 arg5 arg8 gp gi gx gy k h1 hok f8⟩])
            (arg9.view.writes (Elt F) f9 [⟨R8 (F := F) c arg3 gi k h1 hok, w9 (F := F) c arg2 arg3 arg4 arg9 gp gi gx k h1 hok f9⟩])) := by
  have hc1 := (hok h1).1
  have hc2 := (hok h1).2
  unfold res
  iintro ⟨H2, H3, H4, H5, H7, H8, H9⟩
  dsimp only [trip]
  sl_unfold [k1_t1_body]
  sl_exec
  sl_step
  isplitl [H2]; · iexact H2
  isplitl [H3]; · iexact H3
  isplitl [H4]; · iexact H4
  isplitl [H5]; · iexact H5
  unfold w7 w8 w9
  isplitl [H7]; · iexact H7
  isplitl [H8]; · iexact H8
  iexact H9

/-- A trip at an object that is not valid: nothing changes. -/
theorem trip_invalid (h0 : ¬ k1_cond1 (wValid (F := F) c arg3 gi k) = 1#1) :
    res (F := F) c arg2 arg3 arg4 arg5 arg7 arg8 arg9 gp gi gx gy f7 f8 f9
      ⊢ wp frame (wpE (defs₀ (F := F)) 𝒱₀ (c : Thread nD τ) none) Set.univ
          (trip i arg1 harg1 arg2 harg2 arg3 harg3 arg4 harg4 arg5 harg5 arg6 harg6 arg7 harg7 arg8 harg8 arg9 harg9 arg10 harg10 k)
          (fun _ => res (F := F) c arg2 arg3 arg4 arg5 arg7 arg8 arg9 gp gi gx gy f7 f8 f9) := by
  unfold res
  iintro ⟨H2, H3, H4, H5, H7, H8, H9⟩
  dsimp only [trip]
  sl_unfold [k1_t1_body]
  sl_exec
  have h0' : ¬ k1_cond1 (trip_invalid.sl.r c arg3 gi k) = 1#1 := h0
  sl_exec
  sl_step
  isplitl [H2]; · iexact H2
  isplitl [H3]; · iexact H3
  isplitl [H4]; · iexact H4
  isplitl [H5]; · iexact H5
  isplitl [H7]; · iexact H7
  isplitl [H8]; · iexact H8
  iexact H9

end

open Classical in
/-- One trip on the block of the heatmaps. -/
def step7 (k : Fin k1_t1_loop.trips) (f : Buf (Elt F) (arg7.view.loc (c : Thread nD τ))) : Buf (Elt F) (arg7.view.loc (c : Thread nD τ)) :=
  if h : k1_cond1 (wValid (F := F) c arg3 gi k) = 1#1 ∧ TripOK (F := F) c arg3 gi k then
    arg7.view.writes (Elt F) f [⟨R7 (F := F) c arg3 gi k h.1 h.2, w7 (F := F) c arg2 arg3 arg7 gp gi k h.1 h.2 f⟩]
  else f

/-- The block of the heatmaps before trip `k`. -/
def acc7 (f : Buf (Elt F) (arg7.view.loc (c : Thread nD τ))) : ℕ → Buf (Elt F) (arg7.view.loc (c : Thread nD τ))
  | 0 => f
  | k + 1 => if h : k < k1_t1_loop.trips then step7 c arg2 arg3 arg7 gp gi ⟨k, h⟩ (acc7 f k) else acc7 f k

theorem acc7_succ (f : Buf (Elt F) (arg7.view.loc (c : Thread nD τ))) (k : Fin k1_t1_loop.trips) :
    acc7 c arg2 arg3 arg7 gp gi f (k.val + 1) = step7 c arg2 arg3 arg7 gp gi k (acc7 c arg2 arg3 arg7 gp gi f k.val) := by
  rw [acc7, dif_pos k.isLt]

open Classical in
/-- One trip on the block of the targets. -/
def step8 (k : Fin k1_t1_loop.trips) (f : Buf (Elt F) (arg8.view.loc (c : Thread nD τ))) : Buf (Elt F) (arg8.view.loc (c : Thread nD τ)) :=
  if h : k1_cond1 (wValid (F := F) c arg3 gi k) = 1#1 ∧ TripOK (F := F) c arg3 gi k then
    arg8.view.writes (Elt F) f [⟨R8 (F := F) c arg3 gi k h.1 h.2, w8 (F := F) c arg2 arg3 arg4 arg5 arg8 gp gi gx gy k h.1 h.2 f⟩]
  else f

/-- The block of the targets before trip `k`. -/
def acc8 (f : Buf (Elt F) (arg8.view.loc (c : Thread nD τ))) : ℕ → Buf (Elt F) (arg8.view.loc (c : Thread nD τ))
  | 0 => f
  | k + 1 => if h : k < k1_t1_loop.trips then step8 c arg2 arg3 arg4 arg5 arg8 gp gi gx gy ⟨k, h⟩ (acc8 f k) else acc8 f k

theorem acc8_succ (f : Buf (Elt F) (arg8.view.loc (c : Thread nD τ))) (k : Fin k1_t1_loop.trips) :
    acc8 c arg2 arg3 arg4 arg5 arg8 gp gi gx gy f (k.val + 1) = step8 c arg2 arg3 arg4 arg5 arg8 gp gi gx gy k (acc8 c arg2 arg3 arg4 arg5 arg8 gp gi gx gy f k.val) := by
  rw [acc8, dif_pos k.isLt]

open Classical in
/-- One trip on the block of the weights. -/
def step9 (k : Fin k1_t1_loop.trips) (f : Buf (Elt F) (arg9.view.loc (c : Thread nD τ))) : Buf (Elt F) (arg9.view.loc (c : Thread nD τ)) :=
  if h : k1_cond1 (wValid (F := F) c arg3 gi k) = 1#1 ∧ TripOK (F := F) c arg3 gi k then
    arg9.view.writes (Elt F) f [⟨R8 (F := F) c arg3 gi k h.1 h.2, w9 (F := F) c arg2 arg3 arg4 arg9 gp gi gx k h.1 h.2 f⟩]
  else f

/-- The block of the weights before trip `k`. -/
def acc9 (f : Buf (Elt F) (arg9.view.loc (c : Thread nD τ))) : ℕ → Buf (Elt F) (arg9.view.loc (c : Thread nD τ))
  | 0 => f
  | k + 1 => if h : k < k1_t1_loop.trips then step9 c arg2 arg3 arg4 arg9 gp gi gx ⟨k, h⟩ (acc9 f k) else acc9 f k

theorem acc9_succ (f : Buf (Elt F) (arg9.view.loc (c : Thread nD τ))) (k : Fin k1_t1_loop.trips) :
    acc9 c arg2 arg3 arg4 arg9 gp gi gx f (k.val + 1) = step9 c arg2 arg3 arg4 arg9 gp gi gx k (acc9 c arg2 arg3 arg4 arg9 gp gi gx f k.val) := by
  rw [acc9, dif_pos k.isLt]

/-- One trip of the loop moves the three blocks on. -/
theorem step_res (f7 : Buf (Elt F) (arg7.view.loc (c : Thread nD τ))) (f8 : Buf (Elt F) (arg8.view.loc (c : Thread nD τ)))
    (f9 : Buf (Elt F) (arg9.view.loc (c : Thread nD τ)))
    (k : Fin k1_t1_loop.trips) (u : Unit) (hk : TripOK (F := F) c arg3 gi k) :
    res (F := F) c arg2 arg3 arg4 arg5 arg7 arg8 arg9 gp gi gx gy
        (acc7 c arg2 arg3 arg7 gp gi f7 k.val) (acc8 c arg2 arg3 arg4 arg5 arg8 gp gi gx gy f8 k.val) (acc9 c arg2 arg3 arg4 arg9 gp gi gx f9 k.val)
      ⊢ wp frame (wpE (defs₀ (F := F)) 𝒱₀ (c : Thread nD τ) none) Set.univ
          (k1_t1_body (F := F) i arg1 harg1 arg2 harg2 arg3 harg3 arg4 harg4 arg5 harg5 arg6 harg6 arg7 harg7 arg8 harg8 arg9 harg9 arg10 harg10 0#32 k u)
          (fun _ => res (F := F) c arg2 arg3 arg4 arg5 arg7 arg8 arg9 gp gi gx gy
            (acc7 c arg2 arg3 arg7 gp gi f7 (k.val + 1)) (acc8 c arg2 arg3 arg4 arg5 arg8 gp gi gx gy f8 (k.val + 1)) (acc9 c arg2 arg3 arg4 arg9 gp gi gx f9 (k.val + 1))) := by
  rw [acc7_succ, acc8_succ, acc9_succ]
  generalize acc7 c arg2 arg3 arg7 gp gi f7 k.val = f7'
  generalize acc8 c arg2 arg3 arg4 arg5 arg8 gp gi gx gy f8 k.val = f8'
  generalize acc9 c arg2 arg3 arg4 arg9 gp gi gx f9 k.val = f9'
  unfold step7 step8 step9
  by_cases h1 : k1_cond1 (wValid (F := F) c arg3 gi k) = 1#1
  · rw [dif_pos ⟨h1, hk⟩, dif_pos ⟨h1, hk⟩, dif_pos ⟨h1, hk⟩]
    exact trip_valid c i arg1 harg1 arg2 harg2 arg3 harg3 arg4 harg4 arg5 harg5 arg6 harg6 arg7 harg7 arg8 harg8 arg9 harg9 arg10 harg10 gp gi gx gy k h1 hk _ _ _
  · rw [dif_neg fun h => h1 h.1, dif_neg fun h => h1 h.1, dif_neg fun h => h1 h.1]
    exact trip_invalid c i arg1 harg1 arg2 harg2 arg3 harg3 arg4 harg4 arg5 harg5 arg6 harg6 arg7 harg7 arg8 harg8 arg9 harg9 arg10 harg10 gp gi gx gy k _ _ _ h1

set_option warn.classDefReducibility false in
/-- The loop's invariant: every valid object's window fits, the tables and rows as they are, the three blocks after
the trips so far. -/
@[sl_loop] def loopInv
    (f7 : Buf (Elt F) (arg7.view.loc (c : Thread nD τ))) (f8 : Buf (Elt F) (arg8.view.loc (c : Thread nD τ)))
    (f9 : Buf (Elt F) (arg9.view.loc (c : Thread nD τ))) :
    LoopInvTy_k1_t1 (F := F) Unit ℕ (UU nD τ) ℕ 𝒱₀ c none Set.univ i arg1 harg1 arg2 harg2 arg3 harg3 arg4 harg4 arg5 harg5 arg6 harg6 arg7 harg7 arg8 harg8 arg9 harg9 arg10 harg10 0#32 where
  inv k _ := iprop(⌜∀ k, TripOK (F := F) c arg3 gi k⌝ ∗ res (F := F) c arg2 arg3 arg4 arg5 arg7 arg8 arg9 gp gi gx gy
    (acc7 c arg2 arg3 arg7 gp gi f7 k) (acc8 c arg2 arg3 arg4 arg5 arg8 gp gi gx gy f8 k) (acc9 c arg2 arg3 arg4 arg9 gp gi gx f9 k))
  step k u := by
    iintro ⟨%hall, H⟩
    iapply (wp_wand_r Idealize.ShloMosaic.frame (wpE (defs₀ (F := F)) 𝒱₀ (c : Thread nD τ) none) Set.univ)
    isplitl [H]
    · iapply (step_res c i arg1 harg1 arg2 harg2 arg3 harg3 arg4 harg4 arg5 harg5 arg6 harg6 arg7 harg7 arg8 harg8 arg9 harg9 arg10 harg10 gp gi gx gy f7 f8 f9 k u (hall k))
      iexact H
    · iintro %_ H'
      isplitr; · ipureintro; exact hall
      iexact H'

/-- The body of the main call over its operands. -/
abbrev bodyG : Prog (TpuEff nD τ sig (Elt F) Λ₀ .tc) PUnit :=
  cc1__main_body (F := F) i arg1 harg1 arg2 harg2 arg3 harg3 arg4 harg4 arg5 harg5 arg6 harg6 arg7 harg7 arg8 harg8 arg9 harg9 arg10 harg10

abbrev Z7 : Rect S1x10x184x180 := Rect.unit (s := S1x10x184x180) ![0, 0, 0, 0] S1x10x184x180.size inb_S1x10x184x180_S1x10x184x180_0_0_0_0
abbrev Z8 : Rect S1x184x1920 := Rect.unit (s := S1x184x1920) ![0, 0, 0] S1x184x1920.size inb_S1x184x1920_S1x184x1920_0_0_0
abbrev Z1 : Rect S1x10x180x180 := Rect.unit (s := S1x10x180x180) ![0, 0, 0, 0] S1x10x180x180.size inb_S1x10x180x180_S1x10x180x180_0_0_0_0
abbrev Z10 : Rect S1x1 := Rect.unit (s := S1x1) ![0, 0] S1x1.size inb_S1x1_S1x1_0_0

/-- The heatmaps' block after the loop. -/
abbrev end7 : Buf (Elt F) (arg7.view.loc (c : Thread nD τ)) :=
  acc7 c arg2 arg3 arg7 gp gi (arg7.view.writes (Elt F) arg7.view.junk [⟨Z7, k1_pay26 (F := F)⟩]) k1_t1_loop.trips
/-- The targets' block after the loop. -/
abbrev end8 : Buf (Elt F) (arg8.view.loc (c : Thread nD τ)) :=
  acc8 c arg2 arg3 arg4 arg5 arg8 gp gi gx gy (arg8.view.writes (Elt F) arg8.view.junk [⟨Z8, k1_pay27 (F := F)⟩]) k1_t1_loop.trips
/-- The weights' block after the loop. -/
abbrev end9 : Buf (Elt F) (arg9.view.loc (c : Thread nD τ)) :=
  acc9 c arg2 arg3 arg4 arg9 gp gi gx (arg9.view.writes (Elt F) arg9.view.junk [⟨Z8, k1_pay28 (F := F)⟩]) k1_t1_loop.trips

/-- The heatmaps' rows the sum reads. -/
abbrev Y7 : Rect S1x10x184x180 := Rect.unit (s := S1x10x184x180) ![0, 0, 0, 0] S1x10x180x180.size inb_S1x10x184x180_S1x10x180x180_0_0_0_0

set_option backward.proofsInPublic true in
/-- The body: the logits' block, the zeroed blocks, the loop, the running sum. -/
theorem bodyRun (hall : ∀ k, TripOK (F := F) c arg3 gi k)
    (f1 : Buf (Elt F) (arg1.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ))) :
    (iprop((arg1.view.loc (c : Thread nD τ) ↦[arg1.view.set]{fullShare} f1)
      ∗ (arg2.view.loc (c : Thread nD τ) ↦[arg2.view.set]{fullShare} gp)
      ∗ (arg3.view.loc (c : Thread nD τ) ↦[arg3.view.set]{fullShare} gi)
      ∗ (arg4.view.loc (c : Thread nD τ) ↦[arg4.view.set]{fullShare} gx)
      ∗ (arg5.view.loc (c : Thread nD τ) ↦[arg5.view.set]{fullShare} gy)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)) : sProp 𝕄)
      ⊢ wp frame (wpE (defs₀ (F := F)) 𝒱₀ (c : Thread nD τ) none) Set.univ
          (bodyG i arg1 harg1 arg2 harg2 arg3 harg3 arg4 harg4 arg5 harg5 arg6 harg6 arg7 harg7 arg8 harg8 arg9 harg9 arg10 harg10)
          (fun _ => iprop((arg1.view.loc (c : Thread nD τ) ↦[arg1.view.set]{fullShare} f1)
            ∗ (arg2.view.loc (c : Thread nD τ) ↦[arg2.view.set]{fullShare} gp)
            ∗ (arg3.view.loc (c : Thread nD τ) ↦[arg3.view.set]{fullShare} gi)
            ∗ (arg4.view.loc (c : Thread nD τ) ↦[arg4.view.set]{fullShare} gx)
            ∗ (arg5.view.loc (c : Thread nD τ) ↦[arg5.view.set]{fullShare} gy)
            ∗ (arg6.view.loc (c : Thread nD τ) ↦[arg6.view.set]{fullShare}
                arg6.view.writes (Elt F) arg6.view.junk [⟨Z1, k1_pay25 (arg1.view.readAt (Elt F) Z1.toLoadRect f1)⟩])
            ∗ (arg7.view.loc (c : Thread nD τ) ↦[arg7.view.set]{fullShare} (end7 c arg2 arg3 arg7 gp gi))
            ∗ (arg8.view.loc (c : Thread nD τ) ↦[arg8.view.set]{fullShare} (end8 c arg2 arg3 arg4 arg5 arg8 gp gi gx gy))
            ∗ (arg9.view.loc (c : Thread nD τ) ↦[arg9.view.set]{fullShare} (end9 c arg2 arg3 arg4 arg9 gp gi gx))
            ∗ (arg10.view.loc (c : Thread nD τ) ↦[arg10.view.set]{fullShare}
                arg10.view.writes (Elt F) f10 [⟨Z10, fun _ => k1_pay1 (BitVec.ofNat 32 (i 0).val)
                  (arg7.view.readAt (Elt F) Y7.toLoadRect (end7 c arg2 arg3 arg7 gp gi))
                  (arg10.view.readAt (Elt F) Z10.toLoadRect f10 (Shape.Idx.first (s := S1x1) (by decide)))⟩]))) := by
  iintro ⟨H1, H2, H3, H4, H5, H6, H7, H8, H9, H10⟩
  dsimp only [bodyG]
  sl_unfold [cc1__main_body]
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

end Cert.KernelIdeal.Main

end
-- ==== Proof.KernelIdealParams.lean ====
module

public import proofs.«01_k».proof.Proof.KernelIdealTrip

/-! # The body of the parameters' call

Straight line: the rows of the objects are read, fourteen rows of floats and four rows of integers are written. -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section
variable (c : Dev nD)
  (arg0 : Memref sig .tc .vmem S10x8x50 .f32) (harg0 : arg0.IsWhole)
  (arg1 : Memref sig .tc .vmem S8x14x50 .f32) (harg1 : arg1.IsWhole)
  (arg2 : Memref sig .tc .vmem S8x4x50 .i32) (harg2 : arg2.IsWhole)
  (g : Buf (Elt F) (arg0.view.loc (c : Thread nD τ)))

/-- The pieces of the float table, over the rows `r0 … r8` of the objects. -/
abbrev vCx (r0 : Vec F S1x8x50 .f32) := k0_pay1 r0
abbrev vCy (r1 : Vec F S1x8x50 .f32) := k0_pay2 r1
abbrev vIcx (r0 : Vec F S1x8x50 .f32) := k0_pay9 (vCx r0)
abbrev vIcy (r1 : Vec F S1x8x50 .f32) := k0_pay10 (vCy r1)
abbrev vRad (r3 r4 : Vec F S1x8x50 .f32) := k0_pay8 (k0_pay3 r3) (k0_pay4 r4) (k0_pay5 r3 r4) (k0_pay6 r3 r4) (k0_pay7 r3)
abbrev vValid (r0 r1 r3 r4 : Vec F S1x8x50 .f32) :=
  k0_pay13 (vIcy r1) (k0_pay11 (vCx r0) (k0_pay3 r3) (k0_pay4 r4)) (k0_pay12 (F := F))
abbrev vInv (r0 r1 r3 r4 : Vec F S1x8x50 .f32) := k0_pay14 (vRad r3 r4)

/-- The float table's stores, the last one first. -/
def fpL (r0 r1 r2 r3 r4 r5 r6 r7 r8 : Vec F S1x8x50 .f32) : List (View.Piece (Elt F) S8x14x50 .f32) :=
  [⟨Rect.unit (s := S8x14x50) ![0, 13, 0] S8x1x50.size inb_S8x14x50_S8x1x50_0_13_0, k0_pay32 r8⟩,
   ⟨Rect.unit (s := S8x14x50) ![0, 12, 0] S8x1x50.size inb_S8x14x50_S8x1x50_0_12_0, k0_pay31 r7⟩,
   ⟨Rect.unit (s := S8x14x50) ![0, 11, 0] S8x1x50.size inb_S8x14x50_S8x1x50_0_11_0, k0_pay30 r6⟩,
   ⟨Rect.unit (s := S8x14x50) ![0, 10, 0] S8x1x50.size inb_S8x14x50_S8x1x50_0_10_0, k0_pay29 r6⟩,
   ⟨Rect.unit (s := S8x14x50) ![0, 9, 0] S8x1x50.size inb_S8x14x50_S8x1x50_0_9_0, k0_pay28 r5⟩,
   ⟨Rect.unit (s := S8x14x50) ![0, 8, 0] S8x1x50.size inb_S8x14x50_S8x1x50_0_8_0, k0_pay27 r4⟩,
   ⟨Rect.unit (s := S8x14x50) ![0, 7, 0] S8x1x50.size inb_S8x14x50_S8x1x50_0_7_0, k0_pay26 (k0_pay25 r3)⟩,
   ⟨Rect.unit (s := S8x14x50) ![0, 6, 0] S8x1x50.size inb_S8x14x50_S8x1x50_0_6_0, k0_pay24 r2⟩,
   ⟨Rect.unit (s := S8x14x50) ![0, 5, 0] S8x1x50.size inb_S8x14x50_S8x1x50_0_5_0, k0_pay23 (vInv r0 r1 r3 r4)⟩,
   ⟨Rect.unit (s := S8x14x50) ![0, 4, 0] S8x1x50.size inb_S8x14x50_S8x1x50_0_4_0, k0_pay22 (vRad r3 r4)⟩,
   ⟨Rect.unit (s := S8x14x50) ![0, 3, 0] S8x1x50.size inb_S8x14x50_S8x1x50_0_3_0, k0_pay21 (vIcy r1)⟩,
   ⟨Rect.unit (s := S8x14x50) ![0, 2, 0] S8x1x50.size inb_S8x14x50_S8x1x50_0_2_0, k0_pay20 (vIcx r0)⟩,
   ⟨Rect.unit (s := S8x14x50) ![0, 1, 0] S8x1x50.size inb_S8x14x50_S8x1x50_0_1_0, k0_pay19 (vCy r1)⟩,
   ⟨Rect.unit (s := S8x14x50) ![0, 0, 0] S8x1x50.size inb_S8x14x50_S8x1x50_0_0_0, k0_pay18 (vCx r0)⟩]

/-- The integer table's stores, the last one first. -/
def ipL (r0 r1 r3 r4 r9 : Vec F S1x8x50 .f32) : List (View.Piece (Elt F) S8x4x50 .i32) :=
  [⟨Rect.unit (s := S8x4x50) ![0, 3, 0] S8x1x50.size inb_S8x4x50_S8x1x50_0_3_0, k0_pay36 (k0_pay17 (vIcx r0))⟩,
   ⟨Rect.unit (s := S8x4x50) ![0, 2, 0] S8x1x50.size inb_S8x4x50_S8x1x50_0_2_0, k0_pay35 (vValid r0 r1 r3 r4)⟩,
   ⟨Rect.unit (s := S8x4x50) ![0, 1, 0] S8x1x50.size inb_S8x4x50_S8x1x50_0_1_0, k0_pay34 (k0_pay16 (k0_pay15 (vIcy r1)))⟩,
   ⟨Rect.unit (s := S8x4x50) ![0, 0, 0] S8x1x50.size inb_S8x4x50_S8x1x50_0_0_0, k0_pay33 r9⟩]

/-- A row of the objects. -/
abbrev gr (n : ℕ) (h : ∀ a, (![n, 0, 0] : Fin 3 → ℕ) a + S1x8x50.size a ≤ S10x8x50.size a) : Vec F S1x8x50 .f32 :=
  arg0.view.readAt (Elt F) (Rect.unit (s := S10x8x50) ![n, 0, 0] S1x8x50.size h).toLoadRect g

/-- The float table's stores over the objects' block. -/
abbrev fpG : List (View.Piece (Elt F) S8x14x50 .f32) :=
  fpL (gr c arg0 g 0 inb_S10x8x50_S1x8x50_0_0_0) (gr c arg0 g 1 inb_S10x8x50_S1x8x50_1_0_0) (gr c arg0 g 2 inb_S10x8x50_S1x8x50_2_0_0) (gr c arg0 g 3 inb_S10x8x50_S1x8x50_3_0_0) (gr c arg0 g 4 inb_S10x8x50_S1x8x50_4_0_0) (gr c arg0 g 5 inb_S10x8x50_S1x8x50_5_0_0) (gr c arg0 g 6 inb_S10x8x50_S1x8x50_6_0_0) (gr c arg0 g 7 inb_S10x8x50_S1x8x50_7_0_0) (gr c arg0 g 8 inb_S10x8x50_S1x8x50_8_0_0)
/-- The integer table's stores over the objects' block. -/
abbrev ipG : List (View.Piece (Elt F) S8x4x50 .i32) :=
  ipL (gr c arg0 g 0 inb_S10x8x50_S1x8x50_0_0_0) (gr c arg0 g 1 inb_S10x8x50_S1x8x50_1_0_0) (gr c arg0 g 3 inb_S10x8x50_S1x8x50_3_0_0) (gr c arg0 g 4 inb_S10x8x50_S1x8x50_4_0_0) (gr c arg0 g 9 inb_S10x8x50_S1x8x50_9_0_0)

set_option backward.proofsInPublic true in
/-- The body writes the two tables. -/
theorem paramsRun (f1 : Buf (Elt F) (arg1.view.loc (c : Thread nD τ))) (f2 : Buf (Elt F) (arg2.view.loc (c : Thread nD τ))) :
    (iprop((arg0.view.loc (c : Thread nD τ) ↦[arg0.view.set]{fullShare} g)
      ∗ (arg1.view.loc (c : Thread nD τ) ↦[arg1.view.set]{fullShare} f1)
      ∗ (arg2.view.loc (c : Thread nD τ) ↦[arg2.view.set]{fullShare} f2)) : sProp 𝕄)
      ⊢ wp frame (wpE (defs₀ (F := F)) 𝒱₀ (c : Thread nD τ) none) Set.univ
          (cc0__params_body (F := F) arg0 harg0 arg1 harg1 arg2 harg2)
          (fun _ => iprop((arg0.view.loc (c : Thread nD τ) ↦[arg0.view.set]{fullShare} g)
            ∗ (arg1.view.loc (c : Thread nD τ) ↦[arg1.view.set]{fullShare} arg1.view.writes (Elt F) f1 (fpG c arg0 g))
            ∗ (arg2.view.loc (c : Thread nD τ) ↦[arg2.view.set]{fullShare} arg2.view.writes (Elt F) f2 (ipG c arg0 g)))) := by
  iintro ⟨H0, H1, H2⟩
  sl_unfold [cc0__params_body]
  sl_exec
  sl_step
  unfold fpG ipG fpL ipL
  isplitl [H0]; · iexact H0
  isplitl [H1]; · iexact H1
  iexact H2

end

end Cert.KernelIdeal.Main

end
-- ==== Proof.KernelIdealDat.lean ====
module

public import proofs.«01_k».proof.Proof.KernelIdealParams
public import proofs.«01_k».proof.Proof.Gen.KernelIdeal.Regions
public import proofs.«01_k».proof.Proof.Gen.KernelIdeal.Points
public import Idealize.ShloMosaic.Lib.Pipeline.RegionArraysS
public import Idealize.ShloMosaic.Lib.Pipeline.FrameBody
public import Idealize.ShloMosaic.Lib.VecWindow

/-! # What each call finds and leaves at each grid point

The proof data of the two pipelines, over the contents `W` of the buffers at entry, and their body obligations. -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

variable (W : Dev nD → Valuation τ sig (Elt F))

/-! ## The parameters' call -/

/-- A window's block at a point, read off its array at entry. -/
def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- What the parameters' call leaves in the float table's block. -/
def fpAt (c : Dev nD) (t : Fin cfg0.N) : (cfg0.win 1).block.Idx → Elt F (cfg0.win 1).elt :=
  View.canon (fpG c (st0_0 t) ((st0_0 t).view.rep (iblk0 W c 0 t)))

/-- What it leaves in the integer table's block. -/
def ipAt (c : Dev nD) (t : Fin cfg0.N) : (cfg0.win 2).block.Idx → Elt F (cfg0.win 2).elt :=
  View.canon (ipG c (st0_0 t) ((st0_0 t).view.rep (iblk0 W c 0 t)))

/-- The proof data of the parameters' call. -/
def dat0 (c : Dev nD) : Dat τ (Elt F) Unit ℕ (UU nD τ) ℕ cfg0 c where
  A w := W c (Pipeline.arrRef spec0 w)
  after w t := match w with
    | ⟨0, _⟩ => iblk0 W c 0 t
    | ⟨1, _⟩ => fpAt W c t
    | ⟨2, _⟩ => ipAt W c t
  Φ _ := Pipeline.scopedRest (Ix := Unit) (Name := ℕ) (U := UU nD τ) (Lvl := ℕ) (Val := Elt F) spec0 c
  q _ := fullShare
  owed _ := 0

theorem A0_eq (c : Dev nD) (w : Fin cfg0.W) : (dat0 W c).A w = W c (Pipeline.arrRef spec0 w) := by dsimp only [dat0]
theorem before0_0 (c : Dev nD) (t : Fin cfg0.N) (d) : (dat0 W c).before 0 t d = iblk0 W c 0 t := by
  unfold Dat.before; rw [if_pos (fetch0_0 t)]; unfold Dat.fetched Dat.blockOf iblk0; dsimp only [dat0]; rfl
theorem after0_0 (c : Dev nD) (t : Fin cfg0.N) : (dat0 W c).after 0 t = iblk0 W c 0 t := by dsimp only [dat0]
theorem after0_1 (c : Dev nD) (t : Fin cfg0.N) : (dat0 W c).after 1 t = fpAt W c t := by dsimp only [dat0]
theorem after0_2 (c : Dev nD) (t : Fin cfg0.N) : (dat0 W c).after 2 t = ipAt W c t := by dsimp only [dat0]

theorem defs_tc0 : (defs₀ (F := F)) .tc cfg0.body
    = fun a => cc0__params_body (F := F) (win0_0.stage (a.2 0)) (hstage0_0 0) (win0_1.stage (a.2 1)) (hstage0_1 0) (win0_2.stage (a.2 2)) (hstage0_2 0) := rfl
theorem prog_eq0 (t : Fin cfg0.N) : (defs₀ (F := F)) .tc cfg0.body (cfg0.bodyArgs t (cfg0.slots t))
    = cc0__params_body (F := F) (st0_0 t) (hstage0_0 0) (st0_1 t) (hstage0_1 0) (st0_2 t) (hstage0_2 0) :=
  (congrFun defs_tc0 _).trans rfl

/-- An index lies on row `n` when its middle coordinate is `n`. -/
theorem mem_row {h : ℕ} (n : ℕ) (inb) (j : Shape.Idx ⟨3, ![8, h, 50]⟩) :
    j ∈ (Rect.unit (s := ⟨3, ![8, h, 50]⟩) ![0, n, 0] S8x1x50.size inb).set ↔ (j 1).val = n := by
  have h0 := (j 0).isLt
  have h2 := (j 2).isLt
  rw [Rect.mem_set_unit]
  constructor
  · intro H
    have := H 1
    simp at this
    omega
  · intro H a
    fin_cases a <;> simp at * <;> omega

/-- The rows of the float table fill its block. -/
theorem fp_cover (r0 r1 r2 r3 r4 r5 r6 r7 r8 : Vec F S1x8x50 .f32) (j : S8x14x50.Idx) :
    ∃ p ∈ fpL r0 r1 r2 r3 r4 r5 r6 r7 r8, j ∈ p.1.set := by
  have h1 : (j 1).val < 14 := (j 1).isLt
  simp only [fpL, List.mem_cons, List.not_mem_nil, or_false, exists_eq_or_imp, exists_eq_left]
  simp only [mem_row (h := 14)]
  omega
theorem ip_cover (r0 r1 r3 r4 r9 : Vec F S1x8x50 .f32) (j : S8x4x50.Idx) :
    ∃ p ∈ ipL r0 r1 r3 r4 r9, j ∈ p.1.set := by
  have h1 : (j 1).val < 4 := (j 1).isLt
  simp only [ipL, List.mem_cons, List.not_mem_nil, or_false, exists_eq_or_imp, exists_eq_left]
  simp only [mem_row (h := 4)]
  omega

theorem fp_read (c : Dev nD) (t : Fin cfg0.N) (f : (st0_1 t).view.ty.Contents (Elt F)) :
    (st0_1 t).view.read (Elt F) ((st0_1 t).view.writes (Elt F) f (fpG c (st0_0 t) ((st0_0 t).view.rep (iblk0 W c 0 t)))) = fpAt W c t :=
  View.read_writes_eq_canon _ _ _ (fp_cover _ _ _ _ _ _ _ _ _)
theorem ip_read (c : Dev nD) (t : Fin cfg0.N) (f : (st0_2 t).view.ty.Contents (Elt F)) :
    (st0_2 t).view.read (Elt F) ((st0_2 t).view.writes (Elt F) f (ipG c (st0_0 t) ((st0_0 t).view.rep (iblk0 W c 0 t)))) = ipAt W c t :=
  View.read_writes_eq_canon _ _ _ (ip_cover _ _ _ _ _)

set_option backward.isDefEq.respectTransparency.types false in
theorem body_obligation0 (c : Dev nD) : BodyObligation (dat0 W c) (defs₀ (F := F)) 𝒱₀ () Set.univ := fun t => by
  rw [bigSep_W0, bigSep_W0]
  dsimp only
  simp only [before0_0, after0_0, after0_1, after0_2]
  rw [show (dat0 W c).Φ t.castSucc = Pipeline.scopedRest spec0 c from rfl, show (dat0 W c).Φ t.succ = Pipeline.scopedRest spec0 c from rfl]
  unfold Dat.owesAt Pipeline.owesWithin
  rw [show (dat0 W c).owed t.castSucc = 0 from rfl, show (dat0 W c).owed t.succ = 0 from rfl]
  unfold owns
  iintro ⟨HΦ, ⟨%Wd, -, HW⟩, ⟨%d0, %g0, %hg0, H0⟩, ⟨%d1, %g1, -, H1⟩, ⟨%d2, %g2, -, H2⟩⟩
  ihave H0' := (pointsTo_rep_entails (c : Thread nD τ) (st0_0 t) g0 fullShare) $$ H0
  rw [hg0]
  sl_rw [prog_eq0 t]
  iapply (wp_wand_r Idealize.ShloMosaic.frame (wpE (defs₀ (F := F)) 𝒱₀ (c : Thread nD τ) none) Set.univ)
  isplitl [H0' H1 H2]
  · iapply (paramsRun c (st0_0 t) (hstage0_0 0) (st0_1 t) (hstage0_1 0) (st0_2 t) (hstage0_2 0) ((st0_0 t).view.rep (iblk0 W c 0 t)) g1 g2)
    isplitl [H0']; · iexact H0'
    isplitl [H1]; · iexact H1
    iexact H2
  iintro %_ ⟨H0, H1, H2⟩
  isplitl [HΦ]; · iexact HΦ
  isplitl [HW]
  · iexists Wd; isplitr; · ipureintro; exact fun _ _ => Or.inl trivial
    iexact HW
  isplitl [H0]
  · iexists _; isplitr; · ipureintro; exact View.read_rep _ _
    iexact H0
  isplitl [H1]
  · iexists ((st0_1 t).view.writes (Elt F) g1 (fpG c (st0_0 t) ((st0_0 t).view.rep (iblk0 W c 0 t)))); isplitr
    · ipureintro; exact fp_read W c t g1
    iexact H1
  · iexists ((st0_2 t).view.writes (Elt F) g2 (ipG c (st0_0 t) ((st0_0 t).view.rep (iblk0 W c 0 t)))); isplitr
    · ipureintro; exact ip_read W c t g2
    iexact H2

/-! ## The main call -/

/-- A window's block at a point, read off its array at entry. -/
def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The contents of the tables' staging buffers at a point. -/
abbrev tp (c : Dev nD) (t : Fin cfg1.N) := (st1_1 t).view.rep (iblk1 W c 1 t)
abbrev ti (c : Dev nD) (t : Fin cfg1.N) := (st1_2 t).view.rep (iblk1 W c 2 t)
abbrev tx (c : Dev nD) (t : Fin cfg1.N) := (st1_3 t).view.rep (iblk1 W c 3 t)
abbrev ty (c : Dev nD) (t : Fin cfg1.N) := (st1_4 t).view.rep (iblk1 W c 4 t)

/-- What the main call leaves of the logits, -/
def logAt (c : Dev nD) (t : Fin cfg1.N) : (cfg1.win 5).block.Idx → Elt F (cfg1.win 5).elt :=
  (st1_5 t).view.read (Elt F) ((st1_5 t).view.writes (Elt F) (st1_5 t).view.junk
    [⟨Z1, k1_pay25 ((st1_0 t).view.readAt (Elt F) Z1.toLoadRect ((st1_0 t).view.rep (iblk1 W c 0 t)))⟩])
/-- of the heatmaps, -/
def hmBuf (c : Dev nD) (t : Fin cfg1.N) := end7 c (st1_1 t) (st1_2 t) (st1_6 t) (tp W c t) (ti W c t)
def hmAt (c : Dev nD) (t : Fin cfg1.N) : (cfg1.win 6).block.Idx → Elt F (cfg1.win 6).elt :=
  (st1_6 t).view.read (Elt F) (hmBuf W c t)
/-- of the targets, -/
def btAt (c : Dev nD) (t : Fin cfg1.N) : (cfg1.win 7).block.Idx → Elt F (cfg1.win 7).elt :=
  (st1_7 t).view.read (Elt F) (end8 c (st1_1 t) (st1_2 t) (st1_3 t) (st1_4 t) (st1_7 t) (tp W c t) (ti W c t) (tx W c t) (ty W c t))
/-- of the weights. -/
def bwAt (c : Dev nD) (t : Fin cfg1.N) : (cfg1.win 8).block.Idx → Elt F (cfg1.win 8).elt :=
  (st1_8 t).view.read (Elt F) (end9 c (st1_1 t) (st1_2 t) (st1_3 t) (st1_8 t) (tp W c t) (ti W c t) (tx W c t))

/-- The heatmaps' part the sum is taken of. -/
def hmPart (c : Dev nD) (t : Fin cfg1.N) : Vec F S1x10x180x180 .f32 :=
  (st1_6 t).view.readAt (Elt F) Y7.toLoadRect (hmBuf W c t)

/-- The running sum after a point. -/
def avgAt (c : Dev nD) : (n : ℕ) → n < cfg1.N → Elt F .f32
  | 0, h => k1_pay1 (BitVec.ofNat 32 0) (hmPart W c ⟨0, h⟩) (Scalar.ofBits .f32 0x00000000#32 : F .f32)
  | n + 1, h => k1_pay1 (BitVec.ofNat 32 (n + 1)) (hmPart W c ⟨n + 1, h⟩) (avgAt c n (Nat.lt_of_succ_lt h))

/-- The proof data of the main call. -/
def dat1 (c : Dev nD) : Dat τ (Elt F) Unit ℕ (UU nD τ) ℕ cfg1 c where
  A w := W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => logAt W c t
    | ⟨6, _⟩ => hmAt W c t
    | ⟨7, _⟩ => btAt W c t
    | ⟨8, _⟩ => bwAt W c t
    | ⟨9, _⟩ => fun _ => avgAt W c t.val t.isLt
  Φ _ := Pipeline.scopedRest (Ix := Unit) (Name := ℕ) (U := UU nD τ) (Lvl := ℕ) (Val := Elt F) spec1 c
  q _ := fullShare
  owed _ := 0

theorem A1_eq (c : Dev nD) (w : Fin cfg1.W) : (dat1 W c).A w = W c (Pipeline.arrRef spec1 w) := by dsimp only [dat1]
theorem before1_0 (c : Dev nD) (t : Fin cfg1.N) (d) : (dat1 W c).before 0 t d = iblk1 W c 0 t := by
  unfold Dat.before; rw [if_pos (fetch1_0 t)]; unfold Dat.fetched Dat.blockOf iblk1; dsimp only [dat1]; rfl
theorem before1_1 (c : Dev nD) (t : Fin cfg1.N) (d) : (dat1 W c).before 1 t d = iblk1 W c 1 t := by
  unfold Dat.before; rw [if_pos (fetch1_1 t)]; unfold Dat.fetched Dat.blockOf iblk1; dsimp only [dat1]; rfl
theorem before1_2 (c : Dev nD) (t : Fin cfg1.N) (d) : (dat1 W c).before 2 t d = iblk1 W c 2 t := by
  unfold Dat.before; rw [if_pos (fetch1_2 t)]; unfold Dat.fetched Dat.blockOf iblk1; dsimp only [dat1]; rfl
theorem before1_3 (c : Dev nD) (t : Fin cfg1.N) (d) : (dat1 W c).before 3 t d = iblk1 W c 3 t := by
  rw [(dat1 W c).before_in_eq_fetched 3 rfl (fun _ => rfl) (fun _ _ _ => rfl) (fun _ => rfl) t d]; rfl
theorem before1_4 (c : Dev nD) (t : Fin cfg1.N) (d) : (dat1 W c).before 4 t d = iblk1 W c 4 t := by
  rw [(dat1 W c).before_in_eq_fetched 4 rfl (fun _ => rfl) (fun _ _ _ => rfl) (fun _ => rfl) t d]; rfl
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = logAt W c t := by dsimp only [dat1]
theorem after1_6 (c : Dev nD) (t : Fin cfg1.N) : (dat1 W c).after 6 t = hmAt W c t := by dsimp only [dat1]
theorem after1_7 (c : Dev nD) (t : Fin cfg1.N) : (dat1 W c).after 7 t = btAt W c t := by dsimp only [dat1]
theorem after1_8 (c : Dev nD) (t : Fin cfg1.N) : (dat1 W c).after 8 t = bwAt W c t := by dsimp only [dat1]
theorem after1_9 (c : Dev nD) (t : Fin cfg1.N) : (dat1 W c).after 9 t = fun _ => avgAt W c t.val t.isLt := by dsimp only [dat1]

theorem coord1 : ∀ t : Fin cfg1.N, (cfg1.grid.coords t 0).val = t.val := (by decide +kernel : ∀ t : Fin grid1.N, (grid1.coords t 0).val = t.val)

/-- At the first point the sum starts anew. -/
theorem pay1_reset (v : Vec F S1x10x180x180 .f32) (x y : Elt F .f32) : k1_pay1 (BitVec.ofNat 32 0) v x = k1_pay1 (BitVec.ofNat 32 0) v y := by
  unfold k1_pay1; rfl

/-- What the running sum becomes at a point, whatever the buffer held before the first. -/
theorem avg_step (c : Dev nD) (t : Fin cfg1.N) (d : (cfg1.win 9).block.Idx → Elt F (cfg1.win 9).elt) (j : S1x1.Idx) :
    k1_pay1 (BitVec.ofNat 32 (cfg1.grid.coords t 0).val) (hmPart W c t) ((dat1 W c).before 9 t d j) = avgAt W c t.val t.isLt := by
  rw [coord1]
  obtain ⟨n, h⟩ := t
  cases n with
  | zero => exact pay1_reset _ _ _
  | succ n =>
    have hN : n + 1 < 8 := lt_of_lt_of_eq h N_1
    rw [(dat1 W c).before_out_kept 9 rfl ⟨n + 1, h⟩ (Nat.succ_ne_zero n)
      (by
        rw [Bool.eq_false_iff]
        intro e
        have e := (flush1_9 _).mp e
        simp only [Nat.add_sub_cancel] at e
        omega) (fun _ => rfl) (fun _ _ => rfl), after1_9]
    rfl

theorem defs_tc1 : (defs₀ (F := F)) .tc cfg1.body
    = fun a => bodyG (F := F) (grid1.coords a.1) (win1_0.stage (a.2 0)) (hstage1_0 ((a.2 0).cast nbuf1_0)) (win1_1.stage (a.2 1)) (hstage1_1 ((a.2 1).cast nbuf1_1)) (win1_2.stage (a.2 2)) (hstage1_2 ((a.2 2).cast nbuf1_2)) (win1_3.stage (a.2 3)) (hstage1_3 ((a.2 3).cast nbuf1_3)) (win1_4.stage (a.2 4)) (hstage1_4 ((a.2 4).cast nbuf1_4)) (win1_5.stage (a.2 5)) (hstage1_5 ((a.2 5).cast nbuf1_5)) (win1_6.stage (a.2 6)) (hstage1_6 ((a.2 6).cast nbuf1_6)) (win1_7.stage (a.2 7)) (hstage1_7 ((a.2 7).cast nbuf1_7)) (win1_8.stage (a.2 8)) (hstage1_8 ((a.2 8).cast nbuf1_8)) (win1_9.stage (a.2 9)) (hstage1_9 ((a.2 9).cast nbuf1_9)) := rfl
theorem prog_eq1 (t : Fin cfg1.N) : (defs₀ (F := F)) .tc cfg1.body (cfg1.bodyArgs t (cfg1.slots t))
    = bodyG (F := F) (cfg1.grid.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) :=
  (congrFun defs_tc1 _).trans rfl

theorem avg_read (c : Dev nD) (t : Fin cfg1.N) (d) (f : (st1_9 t).view.ty.Contents (Elt F))
    (hf : (st1_9 t).view.read (Elt F) f = (dat1 W c).before 9 t d) :
    (st1_9 t).view.read (Elt F) ((st1_9 t).view.writes (Elt F) f [⟨Z10, fun _ => k1_pay1 (BitVec.ofNat 32 (cfg1.grid.coords t 0).val)
        ((st1_6 t).view.readAt (Elt F) Y7.toLoadRect (hmBuf W c t))
        ((st1_9 t).view.readAt (Elt F) Z10.toLoadRect f (Shape.Idx.first (s := S1x1) (by decide)))⟩]) = fun _ => avgAt W c t.val t.isLt := by
  have e := avg_step W c t d
  rw [← hf] at e
  rw [View.read_writes_full]
  funext j
  exact e _

set_option backward.isDefEq.respectTransparency.types false in
set_option maxHeartbeats 2000000 in
theorem body_obligation1 (c : Dev nD) (hok : ∀ t k, TripOK (F := F) c (st1_2 t) (ti W c t) k) :
    BodyObligation (dat1 W c) (defs₀ (F := F)) 𝒱₀ () Set.univ := fun t => by
  rw [bigSep_W1, bigSep_W1]
  dsimp only
  simp only [before1_0, before1_1, before1_2, before1_3, before1_4, after1_0, after1_1, after1_2, after1_3, after1_4, after1_5, after1_6, after1_7, after1_8, after1_9]
  rw [show (dat1 W c).Φ t.castSucc = Pipeline.scopedRest spec1 c from rfl, show (dat1 W c).Φ t.succ = Pipeline.scopedRest spec1 c from rfl]
  unfold Dat.owesAt Pipeline.owesWithin
  rw [show (dat1 W c).owed t.castSucc = 0 from rfl, show (dat1 W c).owed t.succ = 0 from rfl]
  unfold owns
  iintro ⟨HΦ, ⟨%Wd, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, -, H5⟩, ⟨%d6, %g6, -, H6⟩, ⟨%d7, %g7, -, H7⟩, ⟨%d8, %g8, -, H8⟩, ⟨%d9, %g9, %hg9, H9⟩⟩
  ihave H0' := (pointsTo_rep_entails (c : Thread nD τ) (st1_0 t) g0 fullShare) $$ H0
  ihave H1' := (pointsTo_rep_entails (c : Thread nD τ) (st1_1 t) g1 fullShare) $$ H1
  ihave H2' := (pointsTo_rep_entails (c : Thread nD τ) (st1_2 t) g2 fullShare) $$ H2
  ihave H3' := (pointsTo_rep_entails (c : Thread nD τ) (st1_3 t) g3 fullShare) $$ H3
  ihave H4' := (pointsTo_rep_entails (c : Thread nD τ) (st1_4 t) g4 fullShare) $$ H4
  rw [hg0, hg1, hg2, hg3, hg4]
  sl_rw [prog_eq1 t]
  iapply (wp_wand_r Idealize.ShloMosaic.frame (wpE (defs₀ (F := F)) 𝒱₀ (c : Thread nD τ) none) Set.univ)
  isplitl [H0' H1' H2' H3' H4' H5 H6 H7 H8 H9]
  · iapply (bodyRun c (cfg1.grid.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9))
      (tp W c t) (ti W c t) (tx W c t) (ty W c t) (hok t) ((st1_0 t).view.rep (iblk1 W c 0 t)) g5 g6 g7 g8 g9)
    isplitl [H0']; · iexact H0'
    isplitl [H1']; · iexact H1'
    isplitl [H2']; · iexact H2'
    isplitl [H3']; · iexact H3'
    isplitl [H4']; · iexact H4'
    isplitl [H5]; · iexact H5
    isplitl [H6]; · iexact H6
    isplitl [H7]; · iexact H7
    isplitl [H8]; · iexact H8
    iexact H9
  iintro %_ ⟨H0, H1, H2, H3, H4, H5, H6, H7, H8, H9⟩
  isplitl [HΦ]; · iexact HΦ
  isplitl [HW]
  · iexists Wd; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  isplitl [H4]
  · iexists _; isplitr; · ipureintro; exact View.read_rep _ _
    iexact H4
  isplitl [H5]
  · iexists _; isplitr; · ipureintro; unfold logAt; rfl
    iexact H5
  isplitl [H6]
  · iexists _; isplitr; · ipureintro; unfold hmAt hmBuf; rfl
    iexact H6
  isplitl [H7]
  · iexists _; isplitr; · ipureintro; unfold btAt; rfl
    iexact H7
  isplitl [H8]
  · iexists _; isplitr; · ipureintro; unfold bwAt; rfl
    iexact H8
  · iexists _; isplitr; · ipureintro; exact avg_read W c t d9 g9 hg9
    unfold hmBuf
    iexact H9

end Cert.KernelIdeal.Main

end
-- ==== Proof.KernelIdealRun.lean ====
module

public import proofs.«01_k».proof.Proof.KernelIdealDat
public import Idealize.ShloMosaic.Lib.Pipeline.KitQuiescent

/-! # The run of the program

The two calls as regions of the program, the contents they leave, and the run: whenever the integer table that the
parameters' call leaves steers every trip of the main call inside its blocks, the program terminates, every buffer
ends at the last valuation and every semaphore counter at zero. -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg afterRegion)

variable {F : FTy → Type} [FloatOps F]

local notation "𝕄" => MT nD τ sig Unit (Elt F) ℕ (UU nD τ) ℕ

variable (m : (ℓ : Loc nD τ sig) → Buf (Elt F) ℓ)

/-! ## The contents the calls leave -/

/-- The buffers after the parameters' call. -/
def U2 (c : Dev nD) : Valuation τ sig (Elt F) := afterRegion (dat0 (V1 m) c) (V1 m c)

/-- What the calls leave, the main call's part left open. -/
def outsA : Outs (F := F) := fun _ r c => U2 m c r

/-- The buffers after the main call. -/
def U8 (c : Dev nD) : Valuation τ sig (Elt F) := afterRegion (dat1 (V7 m (outsA m)) c) (V7 m (outsA m) c)

/-- What the calls leave. -/
def outsB : Outs (F := F) := fun n r c => match n with
  | 2 => U2 m c r
  | _ => U8 m c r

theorem V7_eq (c : Dev nD) : V7 m (outsB m) c = V7 m (outsA m) c := rfl

/-- The proof data of the two calls. -/
def pdats : (p : Fin 2) → (c : Dev nD) → Dat τ (Elt F) Unit ℕ (UU nD τ) ℕ (cfgs p) c
  | ⟨0, _⟩ => dat0 (V1 m)
  | ⟨1, _⟩ => dat1 (V7 m (outsA m))

/-- The waits' levels: one, everywhere on the TensorCores. -/
abbrev L : GSem nD τ sig → Finset Unit := fun g => if g.1.2 = .tc then {()} else ∅
abbrev lv : GSem nD τ sig → Unit → ℕ := fun _ _ => 0

theorem hcut (p : Fin 2) : Pipeline.LevelCut (pcfgs (F := F)) adm () L lv p (fun _ : Dev nD => 0) (fun _ => 0) where
  hι c w s := by
    show () ∈ (if _ = _ then _ else _)
    rw [if_pos rfl]; exact Finset.mem_singleton_self _
  hιb _ _ _ := Nat.le_refl _
  hD _ _ _ h := absurd h (Nat.lt_irrefl 0)

/-- Every trip of the main call stays inside its blocks. -/
def AllOK : Prop := ∀ c t k, TripOK (F := F) c (st1_2 t) (ti (V7 m (outsA m)) c t) k

set_option backward.isDefEq.respectTransparency.types false in
/-- The parameters' call as a region. -/
def reg0 : RegionSeg (pcfgs (F := F)) adm (pdats m) () defs₀ 𝒱₀ L lv 0 :=
  Pipeline.RegionSeg.ofHeldIn (pcfgs (F := F)) adm (pdats m) () defs₀ 𝒱₀ L lv 0 (fun _ => 0) (Pipeline.ucRefs τ sig)
    (fun _ => iprop(emp)) (fun _ => iprop(emp)) launch0.toP rfl (fun c => (body_obligation0 (V1 m) c).loose)
    (fun _ _ => rfl) (fun _ => rfl) (fun c => (dat0 (V1 m) c).share_full fun _ => rfl)
    (fun c => by
      rw [show (pdats m 0 c).Φ 0 = Pipeline.scopedRest spec0 c from rfl]
      iintro ⟨H, -⟩
      iexact H)
    (fun c => by
      rw [show (pdats m 0 c).Φ (Fin.last _) = Pipeline.scopedRest spec0 c from rfl]
      iintro H
      isplitl [H]; · iexact H
      iempintro)
    (fun _ => 0) (hcut 0) (fun _ => iprop(emp)) (V1 m) (fun _ _ => rfl)

set_option backward.isDefEq.respectTransparency.types false in
/-- The main call as a region. -/
def reg1 (hok : AllOK m) : RegionSeg (pcfgs (F := F)) adm (pdats m) () defs₀ 𝒱₀ L lv 1 :=
  Pipeline.RegionSeg.ofHeldIn (pcfgs (F := F)) adm (pdats m) () defs₀ 𝒱₀ L lv 1 (fun _ => 0) (Pipeline.ucRefs τ sig)
    (fun _ => iprop(emp)) (fun _ => iprop(emp)) launch1.toP rfl (fun c => (body_obligation1 (V7 m (outsA m)) c (hok c)).loose)
    (fun _ _ => rfl) (fun _ => rfl) (fun c => (dat1 (V7 m (outsA m)) c).share_full fun _ => rfl)
    (fun c => by
      rw [show (pdats m 1 c).Φ 0 = Pipeline.scopedRest spec1 c from rfl]
      iintro ⟨H, -⟩
      iexact H)
    (fun c => by
      rw [show (pdats m 1 c).Φ (Fin.last _) = Pipeline.scopedRest spec1 c from rfl]
      iintro H
      isplitl [H]; · iexact H
      iempintro)
    (fun _ => 0) (hcut 1) (fun _ => iprop(emp)) (V7 m (outsA m)) (fun _ _ => rfl)

/-! ## The valuations between the items -/

theorem U2_ref (c : Dev nD) (r : Ref sig .tc) : U2 m c (Proc.devRef .tc r) = V2 m (outsB m) c (Proc.devRef .tc r) := by
  by_cases h1 : r = main_v1_1
  · subst h1
    dsimp only [V2]
    rw [Function.update_self]
    rfl
  by_cases h0 : r = main_v1_0
  · subst h0
    dsimp only [V2]
    rw [Function.update_of_ne (StableHlo.devRef_ne_of_ne h1), Function.update_self]
    rfl
  rw [V2_of m (outsB m) c r (by simp [h0, h1])]
  refine Pipeline.afterRegion_keeps _ _ launch0.win.arr_inj (fun w => rfl) r fun w e => ?_
  fin_cases w
  · rfl
  · exact absurd e.symm h0
  · exact absurd e.symm h1

theorem U8_ref (c : Dev nD) (r : Ref sig .tc) : U8 m c (Proc.devRef .tc r) = V8 m (outsB m) c (Proc.devRef .tc r) := by
  by_cases h4 : r = main_v10_4
  · subst h4
    dsimp only [V8]
    rw [Function.update_self]
    rfl
  by_cases h3 : r = main_v10_3
  · subst h3
    dsimp only [V8]
    rw [Function.update_of_ne (StableHlo.devRef_ne_of_ne h4), Function.update_self]
    rfl
  by_cases h2 : r = main_v10_2
  · subst h2
    dsimp only [V8]
    rw [Function.update_of_ne (StableHlo.devRef_ne_of_ne h4), Function.update_of_ne (StableHlo.devRef_ne_of_ne h3), Function.update_self]
    rfl
  by_cases h1 : r = main_v10_1
  · subst h1
    dsimp only [V8]
    rw [Function.update_of_ne (StableHlo.devRef_ne_of_ne h4), Function.update_of_ne (StableHlo.devRef_ne_of_ne h3), Function.update_of_ne (StableHlo.devRef_ne_of_ne h2), Function.update_self]
    rfl
  by_cases h0 : r = main_v10_0
  · subst h0
    dsimp only [V8]
    rw [Function.update_of_ne (StableHlo.devRef_ne_of_ne h4), Function.update_of_ne (StableHlo.devRef_ne_of_ne h3), Function.update_of_ne (StableHlo.devRef_ne_of_ne h2), Function.update_of_ne (StableHlo.devRef_ne_of_ne h1), Function.update_self]
    rfl
  rw [V8_of m (outsB m) c r (by simp [h0, h1, h2, h3, h4])]
  refine Pipeline.afterRegion_keeps _ _ launch1.win.arr_inj (fun w => rfl) r fun w e => ?_
  fin_cases w
  · rfl
  · rfl
  · rfl
  · rfl
  · rfl
  · exact absurd e.symm h0
  · exact absurd e.symm h1
  · exact absurd e.symm h2
  · exact absurd e.symm h3
  · exact absurd e.symm h4

theorem U2_eq (c : Dev nD) : ∀ b ∈ Pipeline.ucRefs τ sig, U2 m c b = V2 m (outsB m) c b := by
  intro b hb
  obtain ⟨r, -, rfl⟩ := Finset.mem_map.mp (Finset.mem_filter.mp hb).1
  exact U2_ref m c r

theorem U8_eq (c : Dev nD) : ∀ b ∈ Pipeline.ucRefs τ sig, U8 m c b = V8 m (outsB m) c b := by
  intro b hb
  obtain ⟨r, -, rfl⟩ := Finset.mem_map.mp (Finset.mem_filter.mp hb).1
  exact U8_ref m c r

/-- What rides beside the buffers: the core's debts. -/
abbrev E (_ : Fin 3) (c : Dev nD) : sProp 𝕄 := iprop(∃ Wd, owes (c : Thread nD τ) (0 : CellTallies nD τ sig Unit) Wd)

theorem sub0 : Pipeline.arrRefs ((pcfgs (F := F)) 0).spec ⊆ Pipeline.ucRefs τ sig :=
  Pipeline.arrRefs_sub_ucRefs spec0 (by decide)
theorem sub1 : Pipeline.arrRefs ((pcfgs (F := F)) 1).spec ⊆ Pipeline.ucRefs τ sig :=
  Pipeline.arrRefs_sub_ucRefs spec1 (by decide)

theorem pre0 (c : Dev nD) : iprop(StableHlo.held (c : Thread nD τ) (Pipeline.ucRefs τ sig) (V1 m c) ∗ E 0 c) ⊢ (reg0 m).pre c := by
  refine BIBase.Entails.trans ?_ (Pipeline.RegionSeg.ofHeldIn_pre sub0 c)
  iintro ⟨H, HE⟩
  isplitl [H]; · iexact H
  isplitl [HE]; · iexact HE
  isplitr <;> iempintro
theorem post0 (c : Dev nD) : (reg0 m).post c ⊢ iprop(StableHlo.held (c : Thread nD τ) (Pipeline.ucRefs τ sig) (V2 m (outsB m) c) ∗ E 1 c) := by
  refine (Pipeline.RegionSeg.ofHeldIn_post sub0 c).trans ?_
  have e : (StableHlo.held c.tc (Pipeline.ucRefs τ sig) (afterRegion (pdats m 0 c) (V1 m c)) : sProp 𝕄)
      = StableHlo.held c.tc (Pipeline.ucRefs τ sig) (V2 m (outsB m) c) := StableHlo.held_congr (c.tc : Thread nD τ) (U2_eq m c)
  rw [e]
  iintro ⟨H, HE, -, -⟩
  isplitl [H]; · iexact H
  iexact HE
theorem pre1 (hok : AllOK m) (c : Dev nD) :
    iprop(StableHlo.held (c : Thread nD τ) (Pipeline.ucRefs τ sig) (V7 m (outsB m) c) ∗ E 1 c) ⊢ (reg1 m hok).pre c := by
  rw [V7_eq]
  refine BIBase.Entails.trans ?_ (Pipeline.RegionSeg.ofHeldIn_pre sub1 c)
  iintro ⟨H, HE⟩
  isplitl [H]; · iexact H
  isplitl [HE]; · iexact HE
  isplitr <;> iempintro
theorem post1 (hok : AllOK m) (c : Dev nD) :
    (reg1 m hok).post c ⊢ iprop(StableHlo.held (c : Thread nD τ) (Pipeline.ucRefs τ sig) (V8 m (outsB m) c) ∗ E 2 c) := by
  refine (Pipeline.RegionSeg.ofHeldIn_post sub1 c).trans ?_
  have e : (StableHlo.held c.tc (Pipeline.ucRefs τ sig) (afterRegion (pdats m 1 c) (V7 m (outsA m) c)) : sProp 𝕄)
      = StableHlo.held c.tc (Pipeline.ucRefs τ sig) (V8 m (outsB m) c) := StableHlo.held_congr (c.tc : Thread nD τ) (U8_eq m c)
  rw [e]
  iintro ⟨H, HE, -, -⟩
  isplitl [H]; · iexact H
  iexact HE

/-- The contents every buffer ends at. -/
abbrev Vend (c : Dev nD) : Valuation τ sig (Elt F) := V9 m (outsB m) c

open Idealize.ShloMosaic.Pipeline in
set_option backward.isDefEq.respectTransparency.types false in
/-- The run: every buffer outside the scopes ends at the last valuation, every semaphore counter at zero. -/
theorem run_main (hok : AllOK m) (ρ : Dev nD → PrngReg) :
    θ_run defs (onTc (τ := τ) (main (F := F))) ⟨m, fun _ => 0, ρ⟩ (fun r =>
      (∀ c : Dev nD, ∀ b ∈ Pipeline.ucRefs τ sig, r.2.mem (c, b) = Vend m c b) ∧ r.2.sem = fun _ => 0) := by
  refine Pipeline.θ_run_regions_kit_dev_sems (pcfgs (F := F)) adm (pdats m) () cellOf_inj
    (embL : Emb (UR sig nD τ) 𝕄) defs₀ 𝒱₀ L lv m ρ main
    (segs m (outsB m) 𝒱₀ L lv E () (pdats m) (reg0 m) (reg1 m hok))
    (fun c Q => ?_) (fun c => ?_) (fun _ => 0) (fun g h => if_neg h) (fun _ => iprop(emp))
    (initOf (Pipeline.cells cfgs cellOf_inj) (Pipeline.launchToks cfgs cellOf_inj), 1) ?_
    (T₀ := fun c => iprop(StableHlo.held (c : Thread nD τ) (Pipeline.ucRefs τ sig) (V0 m c) ∗ E 0 c))
    (Tₙ := fun c => StableHlo.held (c : Thread nD τ) (Pipeline.ucRefs τ sig) (Vend m c))
    (hch := fun c => ⟨.rfl, pre0 m c, post0 m c, .rfl, .rfl, .rfl, .rfl, pre1 m hok c, post1 m hok c, sep_mono .rfl .rfl⟩)
    (hinit := ?_) (QY := fun c s => ∀ b ∈ Pipeline.ucRefs τ sig, s.mem (c, b) = Vend m c b)
    (hfin := fun c s' => ?_) (hQ := fun _ h hz => ⟨h, funext fun g => hz g (.inr (regions_no_unscoped g.2))⟩)
  · rewrite [main_chain c, Seg.run_eq_chain,
      show (segs m (outsB m) 𝒱₀ L lv E () (pdats m) (reg0 m) (reg1 m hok) c).map Seg.prog = [
        StableHlo.seq hostOps0, Prog.lift (.customCall (Pipeline.entry 0) ()), StableHlo.seq hostOps1, StableHlo.seq hostOps1_1,
        StableHlo.seq hostOps1_2, StableHlo.seq hostOps1_3, StableHlo.seq hostOps1_4,
        Prog.lift (.customCall (Pipeline.entry 1) ()), StableHlo.seq hostOps2 ] from rfl]
    dsimp (config := { failIfUnchanged := false }) only
    exact .rfl
  · simp only [segs, Seg.pipes_host, Seg.pipes_region, Seg.pipes_nil]; decide
  · iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro; exact h
    · iexact HSI

end Cert.KernelIdeal.Main

end
-- ==== Proof.KernelIdealTab.lean ====
module

public import proofs.«01_k».proof.Proof.KernelIdealRun
public import Idealize.ShloMosaic.Lib.Pipeline.Value
public import Idealize.ShloMosaic.Lib.Pointwise

/-! # What the two object tables hold

The parameters' call fills the tables row by row from the transposed object array, and the main call reads their
words: each word of a table is its row's value at the batch entry and the object. -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat afterRegion)
open Idealize.ShloMosaic.StableHlo (launchContents)

variable {F : FTy → Type} [FloatOps F]

/-- One row under the last store of a table, and the earlier stores elsewhere. -/
theorem canon_row {h : ℕ} {e : EltTy} (n : ℕ) (inb) (w : S8x1x50.Idx → Elt F e) (L : List (View.Piece (Elt F) ⟨3, ![8, h, 50]⟩ e))
    (b : Fin 8) (n' : Fin h) (k : Fin 50) :
    View.canon (⟨Rect.unit (s := ⟨3, ![8, h, 50]⟩) ![0, n, 0] S8x1x50.size inb, w⟩ :: L) (ix3 b n' k)
      = if n'.val = n then w (ix3 b 0 k) else View.canon L (ix3 b n' k) := by
  split
  · rename_i hn
    have e1 : (Rect.unit (s := ⟨3, ![8, h, 50]⟩) ![0, n, 0] S8x1x50.size inb).emb (ix3 b 0 k) = ix3 b n' k := by
      funext a
      apply Fin.ext
      rw [Rect.emb_apply]
      fin_cases a <;> simp [ix3, hn]
    rw [← e1]
    exact View.canon_cons_emb _ _ _ _
  · rename_i hn
    refine View.canon_cons_of_not_mem _ _ ?_
    rw [mem_row]
    exact hn

variable (m : (ℓ : Loc nD τ sig) → Buf (Elt F) ℓ)

/-- Property `n` of the objects, batch entry by batch entry. -/
def orow (c : Dev nD) (n : Fin 10) : Vec F S1x8x50 .f32 := fun j => (launchContents m c main_arg0 : S8x50x10.Idx → F .f32) (ix3 (j 1) (j 2) n)

theorem index0_0 : ∀ (t : Fin cfg0.N) (a), (cfg0.win 0).index t a = 0 :=
  (by decide +kernel : ∀ (t : Fin grid0.N) (a : Fin 3), (win0 0).index t a = 0)
theorem index1_1 : ∀ t : Fin cfg1.N, (cfg1.win 1).index t = ![t.val, 0, 0] :=
  (by decide +kernel : ∀ t : Fin grid1.N, (win1 1).index t = ![t.val, 0, 0])
theorem index1_2 : ∀ t : Fin cfg1.N, (cfg1.win 2).index t = ![t.val, 0, 0] :=
  (by decide +kernel : ∀ t : Fin grid1.N, (win1 2).index t = ![t.val, 0, 0])

set_option backward.isDefEq.respectTransparency.types false in
theorem iblk0_eq (W : Dev nD → Valuation τ sig (Elt F)) (c : Dev nD) (t : Fin cfg0.N) (j : S10x8x50.Idx) :
    iblk0 W c 0 t j = (W c main_v0 : S10x8x50.Idx → F .f32) j := by
  unfold iblk0
  rw [View.read_apply]
  show (W c main_v0 : S10x8x50.Idx → F .f32) (((cfg0.win 0).rect t).emb j) = _
  refine congrArg _ ?_
  funext a
  apply Fin.ext
  rw [Pipeline.Window.rect_emb_val_off, index0_0]
  show 0 * _ + _ = _
  omega

set_option backward.isDefEq.respectTransparency.types false in
theorem iblk1_1 (W : Dev nD → Valuation τ sig (Elt F)) (c : Dev nD) (t : Fin cfg1.N) (j : S1x14x50.Idx) :
    iblk1 W c 1 t j = (W c main_v1_0 : S8x14x50.Idx → F .f32) (ix3 ⟨t.val, t.isLt⟩ (j 1) (j 2)) := by
  have h0 : (j 0).val < 1 := (j 0).isLt
  unfold iblk1
  rw [View.read_apply]
  show (W c main_v1_0 : S8x14x50.Idx → F .f32) (((cfg1.win 1).rect t).emb j) = _
  refine congrArg _ ?_
  funext a
  apply Fin.ext
  rw [Pipeline.Window.rect_emb_val_off, index1_1]
  fin_cases a
  · show t.val * 1 + (j 0).val = t.val
    omega
  · show 0 * 14 + (j 1).val = (j 1).val
    omega
  · show 0 * 50 + (j 2).val = (j 2).val
    omega

set_option backward.isDefEq.respectTransparency.types false in
theorem iblk1_2 (W : Dev nD → Valuation τ sig (Elt F)) (c : Dev nD) (t : Fin cfg1.N) (j : S1x4x50.Idx) :
    iblk1 W c 2 t j = (W c main_v1_1 : S8x4x50.Idx → BitVec 32) (ix3 ⟨t.val, t.isLt⟩ (j 1) (j 2)) := by
  have h0 : (j 0).val < 1 := (j 0).isLt
  unfold iblk1
  rw [View.read_apply]
  show (W c main_v1_1 : S8x4x50.Idx → BitVec 32) (((cfg1.win 2).rect t).emb j) = _
  refine congrArg _ ?_
  funext a
  apply Fin.ext
  rw [Pipeline.Window.rect_emb_val_off, index1_2]
  fin_cases a
  · show t.val * 1 + (j 0).val = t.val
    omega
  · show 0 * 4 + (j 1).val = (j 1).val
    omega
  · show 0 * 50 + (j 2).val = (j 2).val
    omega

theorem V1_v0 (c : Dev nD) : (V1 m c main_v0 : S10x8x50.Idx → F .f32)
    = transpose S10x8x50 [2, 0, 1] (launchContents m c main_arg0 : S8x50x10.Idx → F .f32) transposes_S8x50x10_S10x8x50_2_0_1 := by
  show StableHlo.after hostOps0 (V0 m c) main_v0 = _
  after_results
  try rfl

theorem transpose_rows (X : S8x50x10.Idx → F .f32) (i : S10x8x50.Idx) :
    transpose S10x8x50 [2, 0, 1] X transposes_S8x50x10_S10x8x50_2_0_1 i = X (ix3 (i 1) (i 2) (i 0)) := by
  idx_vars i
  pointwise

set_option backward.isDefEq.respectTransparency.types false in
/-- A row of the objects, as the parameters' call reads it. -/
theorem gr_eq (c : Dev nD) (t : Fin cfg0.N) (n : Fin 10) (h) :
    gr c (st0_0 t) ((st0_0 t).view.rep (iblk0 (V1 m) c 0 t)) n.val h = orow m c n := by
  funext j
  have h0 : (j 0).val < 1 := (j 0).isLt
  unfold gr
  rw [View.readAt_apply, View.read_rep, iblk0_eq, V1_v0, transpose_rows]
  unfold orow
  refine congrArg _ ?_
  funext a
  apply Fin.ext
  fin_cases a
  · show 0 + 1 * (j 1).val = (j 1).val
    omega
  · show 0 + 1 * (j 2).val = (j 2).val
    omega
  · show n.val + 1 * (j 0).val = n.val
    omega

/-- The float table after the parameters' call. -/
def fpT (c : Dev nD) : S8x14x50.Idx → F .f32 :=
  View.canon (fpL (orow m c 0) (orow m c 1) (orow m c 2) (orow m c 3) (orow m c 4) (orow m c 5) (orow m c 6) (orow m c 7) (orow m c 8))
/-- The integer table after the parameters' call. -/
def ipT (c : Dev nD) : S8x4x50.Idx → BitVec 32 :=
  View.canon (Val := Elt F) (e := .i32) (ipL (orow m c 0) (orow m c 1) (orow m c 3) (orow m c 4) (orow m c 9))

theorem fpAt_eq (c : Dev nD) (t : Fin cfg0.N) : fpAt (V1 m) c t = fpT m c := by
  unfold fpAt fpT fpG
  exact congrArg View.canon (by rw [← gr_eq m c t 0, ← gr_eq m c t 1, ← gr_eq m c t 2, ← gr_eq m c t 3, ← gr_eq m c t 4, ← gr_eq m c t 5, ← gr_eq m c t 6, ← gr_eq m c t 7, ← gr_eq m c t 8] <;> rfl)
theorem ipAt_eq (c : Dev nD) (t : Fin cfg0.N) : ipAt (V1 m) c t = ipT m c := by
  unfold ipAt ipT ipG
  exact congrArg View.canon (by rw [← gr_eq m c t 0, ← gr_eq m c t 1, ← gr_eq m c t 3, ← gr_eq m c t 4, ← gr_eq m c t 9] <;> rfl)

theorem index0_1 : ∀ (t : Fin cfg0.N) (a), (cfg0.win 1).index t a = 0 :=
  (by decide +kernel : ∀ (t : Fin grid0.N) (a : Fin 3), (win0 1).index t a = 0)
theorem index0_2 : ∀ (t : Fin cfg0.N) (a), (cfg0.win 2).index t a = 0 :=
  (by decide +kernel : ∀ (t : Fin grid0.N) (a : Fin 3), (win0 2).index t a = 0)

set_option backward.isDefEq.respectTransparency.types false in
theorem emb0_1 (t : Fin cfg0.N) (y : S8x14x50.Idx) : ((cfg0.win 1).blk t).view.emb y = y := by
  show ((cfg0.win 1).rect t).emb y = y
  funext a
  apply Fin.ext
  rw [Pipeline.Window.rect_emb_val_off, index0_1]
  show 0 * _ + _ = _
  omega

set_option backward.isDefEq.respectTransparency.types false in
theorem arr0_1 (c : Dev nD) : (dat0 (V1 m) c).arrAt 1 cfg0.N = fpT m c := by
  refine (dat0 (V1 m) c).arrAt_eq_of_cover 1 (fpT m c) (fun t _ => ?_) fun i => ⟨⟨0, Nat.one_pos⟩, flush0_1 _, ?_⟩
  · funext y
    rw [View.read_apply, emb0_1 t y]
    show (dat0 (V1 m) c).after 1 t y = _
    rw [after0_1, fpAt_eq]
    rfl
  · exact (congrArg (· ∈ ((cfg0.win 1).blk ⟨0, Nat.one_pos⟩).view.set) (emb0_1 ⟨0, Nat.one_pos⟩ i)).mp
      (Finset.mem_map_of_mem _ (Finset.mem_univ _))

set_option backward.isDefEq.respectTransparency.types false in
theorem emb0_2 (t : Fin cfg0.N) (y : S8x4x50.Idx) : ((cfg0.win 2).blk t).view.emb y = y := by
  show ((cfg0.win 2).rect t).emb y = y
  funext a
  apply Fin.ext
  rw [Pipeline.Window.rect_emb_val_off, index0_2]
  show 0 * _ + _ = _
  omega

set_option backward.isDefEq.respectTransparency.types false in
theorem arr0_2 (c : Dev nD) : (dat0 (V1 m) c).arrAt 2 cfg0.N = ipT m c := by
  refine (dat0 (V1 m) c).arrAt_eq_of_cover 2 (ipT m c) (fun t _ => ?_) fun i => ⟨⟨0, Nat.one_pos⟩, flush0_2 _, ?_⟩
  · funext y
    rw [View.read_apply, emb0_2 t y]
    show (dat0 (V1 m) c).after 2 t y = _
    rw [after0_2, ipAt_eq]
    rfl
  · exact (congrArg (· ∈ ((cfg0.win 2).blk ⟨0, Nat.one_pos⟩).view.set) (emb0_2 ⟨0, Nat.one_pos⟩ i)).mp
      (Finset.mem_map_of_mem _ (Finset.mem_univ _))

set_option backward.isDefEq.respectTransparency.types false in
theorem V7_fp (c : Dev nD) : (V7 m (outsA m) c main_v1_0 : S8x14x50.Idx → F .f32) = fpT m c := by
  rw [V7_of m _ c main_v1_0 (by decide), V6_of m _ c main_v1_0 (by decide), V5_of m _ c main_v1_0 (by decide),
    V4_of m _ c main_v1_0 (by decide), V3_of m _ c main_v1_0 (by decide)]
  show V2 m (outsB m) c (Proc.devRef .tc main_v1_0) = _
  rw [← U2_ref]
  exact (Pipeline.afterRegion_arr (dat0 (V1 m) c) (V1 m c) launch0.win.arr_inj 1).trans (arr0_1 m c)

set_option backward.isDefEq.respectTransparency.types false in
theorem V7_ip (c : Dev nD) : (V7 m (outsA m) c main_v1_1 : S8x4x50.Idx → BitVec 32) = ipT m c := by
  rw [V7_of m _ c main_v1_1 (by decide), V6_of m _ c main_v1_1 (by decide), V5_of m _ c main_v1_1 (by decide),
    V4_of m _ c main_v1_1 (by decide), V3_of m _ c main_v1_1 (by decide)]
  show V2 m (outsB m) c (Proc.devRef .tc main_v1_1) = _
  rw [← U2_ref]
  exact (Pipeline.afterRegion_arr (dat0 (V1 m) c) (V1 m c) launch0.win.arr_inj 2).trans (arr0_2 m c)

set_option backward.isDefEq.respectTransparency.types false in
theorem iw_eq (c : Dev nD) (t : Fin cfg1.N) (off : Fin 3 → ℕ) (h) (n : Fin 4) (k : Fin 50) (ho : off = ![0, n.val, k.val]) :
    iw (F := F) c (st1_2 t) (ti (V7 m (outsA m)) c t) off h = ipT m c (ix3 ⟨t.val, t.isLt⟩ n k) := by
  unfold iw ti
  rw [View.readAt_apply, View.read_rep, iblk1_2, V7_ip]
  refine congrArg _ ?_
  subst ho
  funext a
  apply Fin.ext
  fin_cases a <;> rfl

set_option backward.isDefEq.respectTransparency.types false in
theorem fw_eq (c : Dev nD) (t : Fin cfg1.N) (off : Fin 3 → ℕ) (h) (n : Fin 14) (k : Fin 50) (ho : off = ![0, n.val, k.val]) :
    fw (F := F) c (st1_1 t) (tp (V7 m (outsA m)) c t) off h = fpT m c (ix3 ⟨t.val, t.isLt⟩ n k) := by
  unfold fw tp
  rw [View.readAt_apply, View.read_rep, iblk1_1, V7_fp]
  refine congrArg _ ?_
  subst ho
  funext a
  apply Fin.ext
  fin_cases a <;> rfl

theorem trips_eq : k1_t1_loop.trips = 50 := by decide +kernel

theorem off1_eq : ∀ k : Fin k1_t1_loop.trips, k1_off1 k = ![0, 2, k.val] := by decide +kernel
theorem off2_eq : ∀ k : Fin k1_t1_loop.trips, k1_off2 k = ![0, 0, k.val] := by decide +kernel
theorem off3_eq : ∀ k : Fin k1_t1_loop.trips, k1_off3 k = ![0, 1, k.val] := by decide +kernel
theorem off11_eq : ∀ k : Fin k1_t1_loop.trips, k1_off11 k = ![0, 3, k.val] := by decide +kernel

theorem ipT_row3 (c : Dev nD) (b : Fin 8) (k : Fin 50) : ipT m c (ix3 b 3 k) = k0_pay17 (vIcx (orow m c 0)) (ix2 b k) := by
  unfold ipT ipL
  rw [canon_row, if_pos (by decide)]
  unfold k0_pay36
  pointwise
theorem ipT_row2 (c : Dev nD) (b : Fin 8) (k : Fin 50) :
    ipT m c (ix3 b 2 k) = (vValid (orow m c 0) (orow m c 1) (orow m c 3) (orow m c 4) (ix2 b k)).setWidth 32 := by
  unfold ipT ipL
  rw [canon_row, if_neg (by decide), canon_row, if_pos (by decide)]
  unfold k0_pay35
  pointwise
theorem ipT_row1 (c : Dev nD) (b : Fin 8) (k : Fin 50) : ipT m c (ix3 b 1 k) = k0_pay16 (k0_pay15 (vIcy (orow m c 1))) (ix2 b k) := by
  unfold ipT ipL
  rw [canon_row, if_neg (by decide), canon_row, if_neg (by decide), canon_row, if_pos (by decide)]
  unfold k0_pay34
  pointwise
theorem ipT_row0 (c : Dev nD) (b : Fin 8) (k : Fin 50) : ipT m c (ix3 b 0 k) = FloatOps.fptosi 32 (orow m c 9 (ix3 0 b k)) := by
  unfold ipT ipL
  rw [canon_row, if_neg (by decide), canon_row, if_neg (by decide), canon_row, if_neg (by decide), canon_row, if_pos (by decide)]
  unfold k0_pay33
  pointwise

/-- The quotient by `d`, rounded down, of a signed word. -/
def fdiv (d y : BitVec 32) : BitVec 32 :=
  Scalar.select
    (IntOp.andi
      (IntOp.cmpi CmpIPredicate.ne
        (IntOp.subi (BitVec.setWidth 32 (IntOp.cmpi CmpIPredicate.sgt y 0#32)) (BitVec.setWidth 32 (IntOp.cmpi CmpIPredicate.slt y 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector y d) 0#32))
    (IntOp.subi (IntOp.divsi ArithUnit.vector y d) 1#32)
    (IntOp.divsi ArithUnit.vector y d)

/-- The first row of the window around row `x`. -/
def srow (x : BitVec 32) : BitVec 32 := IntOp.minsi 152#32 (IntOp.maxsi 0#32 (IntOp.muli (fdiv 8#32 (IntOp.subi x 11#32)) 8#32))
/-- The first lane of the window around column `x`. -/
def slane (x : BitVec 32) : BitVec 32 :=
  IntOp.minsi 1536#32 (IntOp.maxsi 0#32 (IntOp.muli (fdiv 128#32 (IntOp.muli 10#32 (IntOp.subi x 11#32))) 128#32))

theorem pay16_eq (v : FVec F S8x50 .f32) (j : S8x50.Idx) : k0_pay16 (k0_pay15 v) j = srow (FloatOps.fptosi 32 (v j)) := by
  unfold k0_pay16 k0_pay15 srow fdiv
  pointwise
theorem pay17_eq (v : FVec F S8x50 .f32) (j : S8x50.Idx) : k0_pay17 v j = slane (FloatOps.fptosi 32 (v j)) := by
  unfold k0_pay17 slane fdiv
  pointwise

/-- A multiple of `d` clipped to the range up to a multiple of `d` is one. -/
theorem clip_ok (d n : ℕ) (hd : d ∣ 2 ^ 32) (hn : n < 2 ^ 31) (hdn : d ∣ n) (q : BitVec 32) :
    d ∣ (IntOp.minsi (BitVec.ofNat 32 n) (IntOp.maxsi 0#32 (IntOp.muli q (BitVec.ofNat 32 d)))).toNat
    ∧ (IntOp.minsi (BitVec.ofNat 32 n) (IntOp.maxsi 0#32 (IntOp.muli q (BitVec.ofNat 32 d)))).toNat ≤ n := by
  have hm : d ∣ (IntOp.muli q (BitVec.ofNat 32 d)).toNat := by
    show d ∣ (q * BitVec.ofNat 32 d).toNat
    rw [BitVec.toNat_mul, BitVec.toNat_ofNat]
    refine (Nat.dvd_mod_iff hd).mpr (Dvd.dvd.mul_left ?_ _)
    exact (Nat.dvd_mod_iff hd).mpr (dvd_refl d)
  generalize IntOp.muli q (BitVec.ofNat 32 d) = p at *
  have hn' : (BitVec.ofNat 32 n).toNat = n := by rw [BitVec.toNat_ofNat]; omega
  have hnn : d ∣ (BitVec.ofNat 32 n).toNat ∧ (BitVec.ofNat 32 n).toNat ≤ n := by rw [hn']; exact ⟨hdn, le_rfl⟩
  have hni : (BitVec.ofNat 32 n).toInt = n := by rw [BitVec.toInt_eq_toNat_cond]; omega
  have hp := BitVec.toInt_eq_toNat_cond p
  have h0 : (0#32).toInt = 0 := rfl
  have hz : d ∣ (0#32).toNat ∧ (0#32).toNat ≤ n := ⟨dvd_zero _, Nat.zero_le _⟩
  have hp' := p.isLt
  unfold IntOp.minsi IntOp.maxsi
  simp only [BitVec.slt, decide_eq_true_eq]
  split_ifs with h1 h2 h2
  all_goals first | exact hnn | exact hz | (refine ⟨hm, ?_⟩; omega)
theorem srow_ok (x : BitVec 32) : 8 ∣ (srow x).toNat ∧ (srow x).toNat ≤ 152 :=
  clip_ok 8 152 (by norm_num) (by norm_num) (by norm_num) _
theorem slane_ok (x : BitVec 32) : 128 ∣ (slane x).toNat ∧ (slane x).toNat ≤ 1536 :=
  clip_ok 128 1536 (by norm_num) (by norm_num) (by norm_num) _

theorem srow_val : ∀ i : Fin 180, (srow (BitVec.ofNat 32 i.val)).toNat = min 152 (8 * ((i.val - 11) / 8)) := by decide +kernel
theorem slane_val : ∀ i : Fin 180, (slane (BitVec.ofNat 32 i.val)).toNat = min 1536 (128 * ((10 * (i.val - 11)) / 128)) := by decide +kernel

theorem allOK (hcls : ∀ c, ∀ (b : Fin 8) (k : Fin 50), (FloatOps.fptosi 32 (orow m c 9 (ix3 0 b k)) : BitVec 32).toNat < 10) : AllOK m := by
  intro c t k hv
  have hk : k.val < 50 := lt_of_lt_of_eq k.isLt trips_eq
  unfold wValid wCls wRow wLane at *
  rw [iw_eq m c t _ _ 2 ⟨k.val, hk⟩ (off1_eq k)] at *
  rw [iw_eq m c t _ _ 0 ⟨k.val, hk⟩ (off2_eq k), iw_eq m c t _ _ 1 ⟨k.val, hk⟩ (off3_eq k), iw_eq m c t _ _ 3 ⟨k.val, hk⟩ (off11_eq k)]
  rw [ipT_row0, ipT_row1, ipT_row3, pay16_eq, pay17_eq]
  obtain ⟨h1, h2⟩ := srow_ok (FloatOps.fptosi 32 (vIcy (orow m c 1) (ix2 ⟨t.val, t.isLt⟩ ⟨k.val, hk⟩)))
  obtain ⟨h3, h4⟩ := slane_ok (FloatOps.fptosi 32 (vIcx (orow m c 0) (ix2 ⟨t.val, t.isLt⟩ ⟨k.val, hk⟩)))
  have h5 := hcls c ⟨t.val, t.isLt⟩ ⟨k.val, hk⟩
  generalize srow (FloatOps.fptosi 32 (vIcy (orow m c 1) (ix2 ⟨t.val, t.isLt⟩ ⟨k.val, hk⟩))) = r at *
  generalize slane (FloatOps.fptosi 32 (vIcx (orow m c 0) (ix2 ⟨t.val, t.isLt⟩ ⟨k.val, hk⟩))) = l at *
  generalize (FloatOps.fptosi 32 (orow m c 9 (ix3 0 ⟨t.val, t.isLt⟩ ⟨k.val, hk⟩)) : BitVec 32) = q at *
  refine ⟨⟨fun _ => h1, fun _ a => ?_⟩, fun _ => h3, fun _ a => ?_, fun _ a => ?_⟩
  · show (![0, q.toNat, r.toNat, 0] : Fin 4 → ℕ) a + _ ≤ _
    fin_cases a <;> simp <;> omega
  · show (![0, l.toNat] : Fin 2 → ℕ) a + _ ≤ _
    fin_cases a <;> simp <;> omega
  · show (![0, r.toNat, l.toNat] : Fin 3 → ℕ) a + _ ≤ _
    fin_cases a <;> simp <;> omega

end Cert.KernelIdeal.Main
-- ==== Proof.KernelIdealOK.lean ====
module

public import proofs.«01_k».proof.Proof.KernelIdealTab
public import proofs.«01_k».proof.Pre_classes_named
public import Idealize.ShloMosaic.Lib.StableHlo.RunHlo

/-! # The launch under the precondition

Where every object's class is named, every window of the main call fits, so the launch runs to its end. -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat afterRegion)
open Idealize.ShloMosaic.StableHlo (launchContents)

variable {F : FTy → Type} [FloatOps F]

/-- A word from zero to nine, by its two comparisons. -/
theorem cls_word (x : BitVec 32) (e : IntOp.andi (IntOp.cmpi CmpIPredicate.sge x 0#32) (IntOp.cmpi CmpIPredicate.slt x 10#32) = 1#1) :
    x.toNat < 10 := by
  have and1 : ∀ p q : Bool, IntOp.andi (BitVec.ofBool p) (BitVec.ofBool q) = 1#1 → p = true ∧ q = true := by decide
  obtain ⟨e1, e2⟩ := and1 _ _ e
  simp only [BitVec.sle, BitVec.slt, decide_eq_true_eq] at e1 e2
  have h0 : (0#32).toInt = 0 := rfl
  have h10 : (10#32).toInt = 10 := rfl
  have hx := BitVec.toInt_eq_toNat_cond x
  have := x.isLt
  omega

/-- The precondition, at one object. -/
theorem named_at [Cert.Pre_classes_named.Facts] (X : FVec F S8x50x10 .f32) (a1 a2 a3 a4 a5 a6)
    (h : Cert.Pre_classes_named.fn (F := F) X a1 a2 a3 a4 a5 a6 = fun _ => 1#1) (b : Fin 8) (k : Fin 50) :
    (FloatOps.fptosi 32 (X (ix3 b k 9)) : BitVec 32).toNat < 10 := by
  have e := congrFun h (ix2 b k)
  unfold Cert.Pre_classes_named.fn at e
  pointwise at e
  exact cls_word _ e

variable (m : (ℓ : Loc nD τ sig) → Buf (Elt F) ℓ)

/-- The launch runs, the arguments unchanged and the semaphores at rest. -/
theorem frame_run (hok : AllOK m) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine θ_run_mono (run_main m hok ρ) fun r hr => ⟨fun c => ⟨?_, ?_, ?_, ?_, ?_, ?_, ?_⟩, hr.2⟩
  · exact (hr.1 c _ (Finset.mem_filter.mpr ⟨StableHlo.devRef_mem_tcRefs main_arg0, by decide⟩)).trans (V9_main_arg0 m _ c)
  · exact (hr.1 c _ (Finset.mem_filter.mpr ⟨StableHlo.devRef_mem_tcRefs main_arg1, by decide⟩)).trans (V9_main_arg1 m _ c)
  · exact (hr.1 c _ (Finset.mem_filter.mpr ⟨StableHlo.devRef_mem_tcRefs main_arg2, by decide⟩)).trans (V9_main_arg2 m _ c)
  · exact (hr.1 c _ (Finset.mem_filter.mpr ⟨StableHlo.devRef_mem_tcRefs main_arg3, by decide⟩)).trans (V9_main_arg3 m _ c)
  · exact (hr.1 c _ (Finset.mem_filter.mpr ⟨StableHlo.devRef_mem_tcRefs main_arg4, by decide⟩)).trans (V9_main_arg4 m _ c)
  · exact (hr.1 c _ (Finset.mem_filter.mpr ⟨StableHlo.devRef_mem_tcRefs main_arg5, by decide⟩)).trans (V9_main_arg5 m _ c)
  · exact (hr.1 c _ (Finset.mem_filter.mpr ⟨StableHlo.devRef_mem_tcRefs main_arg6, by decide⟩)).trans (V9_main_arg6 m _ c)

end Cert.KernelIdeal.Main
-- ==== Proof.Spec.lean ====
module

public import Idealize.ShloMosaic.Lib.Pointwise
public import Idealize.ShloMosaic.Lib.IdealHost
public import Mathlib.Tactic.Linarith

/-! # One object's numbers

What one object adds to a cell, over the extended reals: its window, its bell and the bounds on them. -/

@[expose] public section

set_option maxRecDepth 16384

noncomputable section

namespace Cert.Spec

open Idealize.ShloMosaic

/-- The number a word of 32 bits denotes. -/
abbrev wd (b : BitVec 32) : EReal := Ideal.ofBits .f32 b

theorem wd_2 : wd 0x40000000#32 = ((2 : ℝ) : EReal) := by
  simp [wd, Ideal.ofBits, Ideal.ieee, -EReal.coe_mul]; norm_num
theorem wd_4 : wd 0x40800000#32 = ((4 : ℝ) : EReal) := by
  simp [wd, Ideal.ofBits, Ideal.ieee, -EReal.coe_mul]; norm_num
theorem wd_6 : wd 0x40C00000#32 = ((6 : ℝ) : EReal) := by
  simp [wd, Ideal.ofBits, Ideal.ieee, -EReal.coe_mul]; norm_num
theorem wd_3 : wd 0x40400000#32 = ((3 : ℝ) : EReal) := by
  simp [wd, Ideal.ofBits, Ideal.ieee, -EReal.coe_mul]; norm_num
theorem wd_5 : wd 0x40A00000#32 = ((5 : ℝ) : EReal) := by
  simp [wd, Ideal.ofBits, Ideal.ieee, -EReal.coe_mul]; norm_num
theorem wd_7 : wd 0x40E00000#32 = ((7 : ℝ) : EReal) := by
  simp [wd, Ideal.ofBits, Ideal.ieee, -EReal.coe_mul]; norm_num
theorem wd_8 : wd 0x41000000#32 = ((8 : ℝ) : EReal) := by
  simp [wd, Ideal.ofBits, Ideal.ieee, -EReal.coe_mul]; norm_num
theorem wd_16 : wd 0x41800000#32 = ((16 : ℝ) : EReal) := by
  simp [wd, Ideal.ofBits, Ideal.ieee, -EReal.coe_mul]; norm_num
theorem wd_40 : wd 0x42200000#32 = ((40 : ℝ) : EReal) := by
  simp [wd, Ideal.ofBits, Ideal.ieee, -EReal.coe_mul]; norm_num
theorem wd_180 : wd 0x43340000#32 = ((180 : ℝ) : EReal) := by
  simp [wd, Ideal.ofBits, Ideal.ieee, -EReal.coe_mul]; norm_num
theorem wd_quarter : wd 0x3E800000#32 = ((1 / 4 : ℝ) : EReal) := by
  simp [wd, Ideal.ofBits, Ideal.ieee, -EReal.coe_mul]; norm_num
theorem wd_09 : wd 0x3F666666#32 = ((15099494 / 16777216 : ℝ) : EReal) := by
  simp [wd, Ideal.ofBits, Ideal.ieee, -EReal.coe_mul]; norm_num
theorem wd_m09 : wd 0xBF666666#32 = ((-(15099494 / 16777216) : ℝ) : EReal) := by
  simp [wd, Ideal.ofBits, Ideal.ieee, -EReal.coe_mul, -EReal.coe_neg]; norm_num
theorem wd_11 : wd 0x3F8CCCCD#32 = ((9227469 / 8388608 : ℝ) : EReal) := by
  simp [wd, Ideal.ofBits, Ideal.ieee, -EReal.coe_mul]; norm_num
theorem wd_m02 : wd 0xBE4CCCCD#32 = ((-(13421773 / 67108864) : ℝ) : EReal) := by
  simp [wd, Ideal.ofBits, Ideal.ieee, -EReal.coe_mul, -EReal.coe_neg]; norm_num
theorem wd_16th : wd 0x3FCCCCCD#32 = ((13421773 / 8388608 : ℝ) : EReal) := by
  simp [wd, Ideal.ofBits, Ideal.ieee, -EReal.coe_mul]; norm_num
theorem wd_08 : wd 0x3F4CCCCD#32 = ((13421773 / 16777216 : ℝ) : EReal) := by
  simp [wd, Ideal.ofBits, Ideal.ieee, -EReal.coe_mul]; norm_num

/-- A quarter of a number. -/
def qS (x : EReal) : EReal := Ideal.div x (wd 0x40800000#32)

theorem quarter (x : EReal) : x * wd 0x3E800000#32 = qS x := by
  rw [qS, wd_4, Ideal.div_coe (by norm_num), wd_quarter]

/-- The radius of an object from the two sides of its box. -/
def radS (bw bl : EReal) : EReal :=
  max (wd 0x40000000#32) (Ideal.liftRound Int.floor (min (min
    (Ideal.div ((bl + bw) + Ideal.sqrt (max ((bl + bw) * (bl + bw)
      - wd 0x40800000#32 * Ideal.div ((bw * bl) * wd 0x3F666666#32) (wd 0x3F8CCCCD#32)) 0)) (wd 0x40000000#32))
    (Ideal.div (wd 0x40000000#32 * (bl + bw) + Ideal.sqrt (max ((wd 0x40000000#32 * (bl + bw)) * (wd 0x40000000#32 * (bl + bw))
      - wd 0x41800000#32 * ((wd 0x3F666666#32 * bw) * bl)) 0)) (wd 0x40000000#32)))
    (Ideal.div (wd 0xBE4CCCCD#32 * (bl + bw) + Ideal.sqrt (max ((wd 0xBE4CCCCD#32 * (bl + bw)) * (wd 0xBE4CCCCD#32 * (bl + bw))
      - wd 0x3FCCCCCD#32 * ((wd 0xBF666666#32 * bw) * bl)) 0)) (wd 0x3F4CCCCD#32))))

theorem sqrt_max (x : ℝ) : Ideal.sqrt (max (x : EReal) 0) = ((Real.sqrt (max x 0) : ℝ) : EReal) := by
  rw [show (0 : EReal) = ((0 : ℝ) : EReal) from rfl, ← EReal.coe_strictMono.monotone.map_max, Ideal.sqrt_coe,
    if_neg (not_lt.mpr (le_max_right _ _))]

theorem coe_min' (x y : ℝ) : min (x : EReal) y = ((min x y : ℝ) : EReal) := (EReal.coe_strictMono.monotone.map_min).symm
theorem coe_max' (x y : ℝ) : max (x : EReal) y = ((max x y : ℝ) : EReal) := (EReal.coe_strictMono.monotone.map_max).symm

/-- The radius of a box whose sides are positive and at most ten lies between two and ten. -/
theorem radS_real (a b : ℝ) (ha : 0 < a) (ha' : a ≤ 10) (hb : 0 < b) (hb' : b ≤ 10) :
    ∃ ρ : ℝ, radS a b = ρ ∧ 2 ≤ ρ ∧ ρ ≤ 10 := by
  unfold radS
  simp only [wd_2, wd_4, wd_16, wd_09, wd_m09, wd_11, wd_m02, wd_16th, wd_08]
  rw [Ideal.div_coe (by norm_num), Ideal.div_coe (by norm_num), Ideal.div_coe (by norm_num), Ideal.div_coe (by norm_num)]
  simp only [← EReal.coe_mul, ← EReal.coe_add, ← EReal.coe_sub, sqrt_max, coe_min', Ideal.liftRound_coe, coe_max']
  refine ⟨_, rfl, le_max_left _ _, max_le (by norm_num) ?_⟩
  have key : ∀ z w : ℝ, w < 11 → ((⌊min z w⌋ : ℤ) : ℝ) ≤ 10 := fun z w h => by
    have h1 : ⌊min z w⌋ < 11 := Int.floor_lt.mpr (lt_of_le_of_lt (min_le_right _ _) (by exact_mod_cast h))
    exact_mod_cast Int.lt_add_one_iff.mp h1
  refine key _ _ ?_
  have hab : 0 ≤ (10 - a) * (10 - b) := mul_nonneg (by linarith) (by linarith)
  have hs : Real.sqrt (max ((-(13421773 / 67108864) * (b + a)) * (-(13421773 / 67108864) * (b + a))
      - 13421773 / 8388608 * (-(15099494 / 16777216) * a * b)) 0) < 13421773 / 16777216 * 11 + 13421773 / 67108864 * (b + a) := by
    rw [Real.sqrt_lt' (by positivity)]
    refine max_lt ?_ (by positivity)
    nlinarith [mul_pos ha hb]
  rw [mul_one_div, div_lt_iff₀ (by norm_num)]
  linarith

/-- The cell an object's center lies in, along one axis. -/
def flS (x : EReal) : EReal := Ideal.liftRound Int.floor (qS x)

/-- The object is drawn: its box has two positive sides and its center lies in the picture. -/
def validS (o : Fin 10 → EReal) : BitVec 1 :=
  IntOp.andi (IntOp.andi (IntOp.andi (IntOp.andi (IntOp.andi (Ideal.cmp .ogt (qS (o 3)) 0) (Ideal.cmp .ogt (qS (o 4)) 0))
    (Ideal.cmp .oge (flS (o 0)) 0)) (Ideal.cmp .olt (flS (o 0)) (wd 0x43340000#32))) (Ideal.cmp .oge (flS (o 1)) 0))
    (Ideal.cmp .olt (flS (o 1)) (wd 0x43340000#32))

/-- The object's radius. -/
def radO (o : Fin 10 → EReal) : EReal := radS (qS (o 3)) (qS (o 4))

/-- The spread of an object's bell. -/
def sigS (o : Fin 10 → EReal) : EReal := Ideal.div (wd 0x40000000#32 * radO o + 1) (wd 0x40C00000#32)

/-- Within the radius. -/
def nearS (d r : EReal) : BitVec 1 := Ideal.cmp .ole (max d (-d)) r

/-- The cell at row `y` and column `x` lies in the window of the object. -/
def inS (o : Fin 10 → EReal) (y x : EReal) : BitVec 1 :=
  IntOp.andi (IntOp.andi (nearS (x - flS (o 0)) (radO o)) (nearS (y - flS (o 1)) (radO o))) (validS o)

/-- The bell of an object at row `y` and column `x`. -/
def bellS (o : Fin 10 → EReal) (y x : EReal) : EReal :=
  Ideal.exp (Ideal.div (-((x - flS (o 0)) * (x - flS (o 0)) + (y - flS (o 1)) * (y - flS (o 1))))
    ((wd 0x40000000#32 * sigS o) * sigS o))

/-- What an object draws at a cell: its bell within its window, else zero. -/
def gS (o : Fin 10 → EReal) (y x : EReal) : EReal := if inS o y x = 1#1 then bellS o y x else 0

theorem exp_nonneg (x : EReal) : 0 ≤ Ideal.exp x := by
  induction x with
  | bot => exact le_refl _
  | top => exact le_top
  | coe r => rw [Ideal.exp_coe]; exact_mod_cast (Real.exp_pos r).le

theorem gS_nonneg (o : Fin 10 → EReal) (y x : EReal) : 0 ≤ gS o y x := by
  unfold gS; split
  · exact exp_nonneg _
  · exact le_refl _

theorem and_one (x y : BitVec 1) : IntOp.andi x y = 1#1 ↔ x = 1#1 ∧ y = 1#1 := by
  revert x y; decide

theorem ofBool_one (p : Bool) : BitVec.ofBool p = 1#1 ↔ p = true := by cases p <;> decide

theorem validS_iff (o : Fin 10 → EReal) : validS o = 1#1 ↔ ((((0 < qS (o 3) ∧ 0 < qS (o 4)) ∧ 0 ≤ flS (o 0)) ∧ flS (o 0) < ((180 : ℝ) : EReal))
    ∧ 0 ≤ flS (o 1)) ∧ flS (o 1) < ((180 : ℝ) : EReal) := by
  simp only [validS, and_one, Ideal.cmp, ofBool_one, decide_eq_true_eq, wd_180]

/-- A cell number of the picture is a natural number below 180, and its word says it. -/
theorem flS_nat (x : EReal) (h0 : 0 ≤ flS x) (h1 : flS x < ((180 : ℝ) : EReal)) :
    ∃ i : ℕ, i < 180 ∧ flS x = ((i : ℝ) : EReal) ∧ Ideal.fptosi 32 (flS x) = BitVec.ofNat 32 i := by
  unfold flS at *
  generalize hq : qS x = q at *
  induction q with
  | bot => exact absurd h0 (by rw [show Ideal.liftRound Int.floor ⊥ = ⊥ from rfl]; simp)
  | top => exact absurd h1 (by rw [show Ideal.liftRound Int.floor ⊤ = ⊤ from rfl]; simp)
  | coe r =>
    rw [Ideal.liftRound_coe] at *
    have a0 : (0 : ℤ) ≤ ⌊r⌋ := by exact_mod_cast h0
    have a1 : ⌊r⌋ < (180 : ℤ) := by exact_mod_cast h1
    obtain ⟨i, hi⟩ := Int.eq_ofNat_of_zero_le a0
    rw [hi] at a1 ⊢
    have hi' : i < 180 := by exact_mod_cast a1
    refine ⟨i, hi', by simp, ?_⟩
    have hn : (0 : ℝ) ≤ (((i : ℕ) : ℤ) : ℝ) := by exact_mod_cast Nat.zero_le i
    unfold Ideal.fptosi
    rw [Ideal.toIntClamped_coe, if_pos hn, Int.floor_intCast]
    have : max (-((2 ^ (32 - 1) : ℕ) : ℤ)) (min (((2 ^ (32 - 1) : ℕ) : ℤ) - 1) ((i : ℕ) : ℤ)) = (i : ℤ) := by
      norm_num
      omega
    rw [this]; exact BitVec.ofInt_natCast 32 i

/-- A quarter that is positive and a number at most forty: a real number between zero and ten. -/
theorem qS_real (x : EReal) (h0 : 0 < qS x) (h1 : x ≤ ((40 : ℝ) : EReal)) : ∃ a : ℝ, qS x = a ∧ 0 < a ∧ a ≤ 10 := by
  rw [qS, wd_4, Ideal.div_coe (by norm_num)] at *
  induction x with
  | bot => exact absurd h0 (by rw [EReal.bot_mul_coe_of_pos (by norm_num)]; simp)
  | top => exact absurd h1 (by simp)
  | coe r =>
    have h1' : r ≤ 40 := by exact_mod_cast h1
    rw [← EReal.coe_mul] at *
    have h0' : 0 < r * (1 / 4) := by exact_mod_cast h0
    exact ⟨_, rfl, h0', by linarith⟩

/-- What is known of a drawn object. -/
structure Drawn (o : Fin 10 → EReal) (i j : ℕ) (ρ : ℝ) : Prop where
  hi : i < 180
  hj : j < 180
  ei : flS (o 0) = ((i : ℝ) : EReal)
  ej : flS (o 1) = ((j : ℝ) : EReal)
  wi : Ideal.fptosi 32 (flS (o 0)) = BitVec.ofNat 32 i
  wj : Ideal.fptosi 32 (flS (o 1)) = BitVec.ofNat 32 j
  er : radO o = ρ
  r2 : 2 ≤ ρ
  r10 : ρ ≤ 10

theorem drawn (o : Fin 10 → EReal) (h : validS o = 1#1) (h3 : o 3 ≤ ((40 : ℝ) : EReal)) (h4 : o 4 ≤ ((40 : ℝ) : EReal)) :
    ∃ i j ρ, Drawn o i j ρ := by
  obtain ⟨⟨⟨⟨⟨p3, p4⟩, a0⟩, a1⟩, b0⟩, b1⟩ := (validS_iff o).mp h
  obtain ⟨i, hi, ei, wi⟩ := flS_nat _ a0 a1
  obtain ⟨j, hj, ej, wj⟩ := flS_nat _ b0 b1
  obtain ⟨a, ea, a0, a1⟩ := qS_real _ p3 h3
  obtain ⟨b, eb, b0, b1⟩ := qS_real _ p4 h4
  obtain ⟨ρ, er, r2, r10⟩ := radS_real a b a0 a1 b0 b1
  exact ⟨i, j, ρ, hi, hj, ei, ej, wi, wj, by rw [radO, ea, eb, er], r2, r10⟩

/-- Within the radius, over the reals. -/
theorem near_iff (x i ρ : ℝ) : nearS ((x : EReal) - ((i : ℝ) : EReal)) (ρ : EReal) = 1#1 ↔ |x - i| ≤ ρ := by
  rw [nearS, Ideal.cmp, ofBool_one, decide_eq_true_eq, ← EReal.coe_sub, ← EReal.coe_neg, coe_max', EReal.coe_le_coe_iff]
  rfl

/-- The reciprocal of twice the spread's square. -/
def invO (o : Fin 10 → EReal) : EReal := Ideal.div 1 ((wd 0x40000000#32 * sigS o) * sigS o)

/-- The bell is the product of its two sides. -/
theorem bell_eq (o : Fin 10 → EReal) (i j : ℕ) (ρ : ℝ) (d : Drawn o i j ρ) (y x : ℝ) :
    Ideal.exp ((0 - (((y : EReal) - flS (o 1)) * ((y : EReal) - flS (o 1)))) * invO o)
      * Ideal.exp ((0 - (((x : EReal) - flS (o 0)) * ((x : EReal) - flS (o 0)))) * invO o) = bellS o y x := by
  unfold bellS invO sigS
  rw [d.ei, d.ej, d.er, wd_2, wd_6, Ideal.div_coe (y := 6) (by norm_num)]
  have hr := d.r2
  have e1 : (1 : EReal) = ((1 : ℝ) : EReal) := rfl
  have e0 : (0 : EReal) = ((0 : ℝ) : EReal) := rfl
  rw [e1, e0]
  simp only [← EReal.coe_mul, ← EReal.coe_add, ← EReal.coe_sub, ← EReal.coe_neg]
  have hp : (2 * ((2 * ρ + 1) * (1 / 6)) * ((2 * ρ + 1) * (1 / 6)) : ℝ) ≠ 0 := by positivity
  rw [Ideal.div_coe hp, Ideal.div_coe hp]
  simp only [← EReal.coe_mul, Ideal.exp_coe]
  rw [← Real.exp_add]
  congr 2
  ring

/-- What an object draws at a cell, from the numbers of its table row. -/
def kS (icx icy rad inv y x : EReal) : EReal :=
  if IntOp.andi (nearS (y - icy) rad) (nearS (x - icx) rad) = 1#1
  then Ideal.exp ((0 - ((y - icy) * (y - icy))) * inv) * Ideal.exp ((0 - ((x - icx) * (x - icx))) * inv) else 0

/-- In the window of a drawn object. -/
theorem inS_iff (o : Fin 10 → EReal) (hv : validS o = 1#1) (y x : EReal) :
    IntOp.andi (nearS (y - flS (o 1)) (radO o)) (nearS (x - flS (o 0)) (radO o)) = 1#1 ↔ inS o y x = 1#1 := by
  simp only [inS, and_one, hv, and_true]
  exact And.comm

theorem kS_eq (o : Fin 10 → EReal) (hv : validS o = 1#1) (i j : ℕ) (ρ : ℝ) (d : Drawn o i j ρ) (y x : ℝ) :
    kS (flS (o 0)) (flS (o 1)) (radO o) (invO o) (y : EReal) (x : EReal) = gS o y x := by
  unfold kS gS
  rw [if_congr (inS_iff o hv _ _) (bell_eq o i j ρ d y x) rfl]

/-- The cells of a drawn object's window lie within ten of its center. -/
theorem inS_near (o : Fin 10 → EReal) (i j : ℕ) (ρ : ℝ) (d : Drawn o i j ρ) (y x : ℕ)
    (h : inS o ((y : ℝ) : EReal) ((x : ℝ) : EReal) = 1#1) : (y ≤ j + 10 ∧ j ≤ y + 10) ∧ (x ≤ i + 10 ∧ i ≤ x + 10) := by
  simp only [inS, and_one] at h
  obtain ⟨⟨hx, hy⟩, _⟩ := h
  rw [d.ei, d.er, near_iff, abs_le] at hx
  rw [d.ej, d.er, near_iff, abs_le] at hy
  have := d.r10
  refine ⟨⟨?_, ?_⟩, ?_, ?_⟩
  · have : (y : ℝ) ≤ ((j + 10 : ℕ) : ℝ) := by push_cast; linarith
    exact_mod_cast this
  · have : (j : ℝ) ≤ ((y + 10 : ℕ) : ℝ) := by push_cast; linarith
    exact_mod_cast this
  · have : (x : ℝ) ≤ ((i + 10 : ℕ) : ℝ) := by push_cast; linarith
    exact_mod_cast this
  · have : (i : ℝ) ≤ ((x + 10 : ℕ) : ℝ) := by push_cast; linarith
    exact_mod_cast this

/-- Nothing is drawn outside of the window. -/
theorem gS_out (o : Fin 10 → EReal) (y x : EReal) (h : ¬ inS o y x = 1#1) : gS o y x = 0 := if_neg h

theorem inS_valid (o : Fin 10 → EReal) (y x : EReal) (h : inS o y x = 1#1) : validS o = 1#1 := by
  simp only [inS, and_one] at h
  exact h.2

/-- The greatest bell of the objects `ch` at a cell. -/
def hmS (o : Fin 50 → Fin 10 → EReal) (ch : ℕ) (y x : EReal) : EReal :=
  Finset.univ.fold max ⊥ fun n : Fin 50 => if Ideal.fptosi 32 (o n 9) = BitVec.ofNat 32 ch then gS (o n) y x else 0

/-- What an object writes at a cell's `ch`-th channel. -/
def valS (o : Fin 10 → EReal) (ch : Fin 10) (y x : EReal) : EReal :=
  ![qS (o 0) - x, qS (o 1) - y, o 2, Ideal.log (max (o 3) (wd 0x358637BD#32)), Ideal.log (max (o 4) (wd 0x358637BD#32)),
    Ideal.log (max (o 5) (wd 0x358637BD#32)), Ideal.sin (o 6), Ideal.cos (o 6), o 7, o 8] ch

end Cert.Spec
-- ==== Proof.Folds.lean ====
module

public import proofs.«01_k».proof.Proof.Spec

/-! # Folds over the objects in their order -/

@[expose] public section

set_option maxRecDepth 16384

noncomputable section

namespace Cert.Spec

open Idealize.ShloMosaic

/-- The greatest of zero and the first `k` values. -/
def maxF (h : Fin 50 → EReal) : ℕ → EReal
  | 0 => 0
  | k + 1 => if hk : k < 50 then max (maxF h k) (h ⟨k, hk⟩) else maxF h k

/-- The last of the first `k` values that is chosen, or zero. -/
def lastF (p : Fin 50 → Prop) [DecidablePred p] (v : Fin 50 → EReal) : ℕ → EReal
  | 0 => 0
  | k + 1 => if hk : k < 50 then (if p ⟨k, hk⟩ then v ⟨k, hk⟩ else lastF p v k) else lastF p v k

/-- Every object met is at most the running maximum. -/
theorem le_maxF (h : Fin 50 → EReal) (n : Fin 50) : ∀ k, n.val < k → k ≤ 50 → h n ≤ maxF h k := by
  intro k
  induction k with
  | zero => intro a; omega
  | succ k ih =>
    intro a b
    rw [maxF, dif_pos (by omega)]
    rcases Nat.lt_succ_iff_lt_or_eq.mp a with c | c
    · exact le_trans (ih c (by omega)) (le_max_left _ _)
    · exact le_max_of_le_right (le_of_eq (congrArg h (Fin.ext c)))

/-- A bound of every object met bounds the running maximum. -/
theorem maxF_le (h : Fin 50 → EReal) (z : EReal) (hz : 0 ≤ z) (hh : ∀ n, h n ≤ z) : ∀ k, k ≤ 50 → maxF h k ≤ z := by
  intro k
  induction k with
  | zero => intro _; exact hz
  | succ k ih =>
    intro b
    rw [maxF, dif_pos (by omega)]
    exact max_le (ih (by omega)) (hh _)

/-- The greatest of values that are not negative, from either start. -/
theorem fold_eq_maxF (h : Fin 50 → EReal) (h0 : ∀ n, 0 ≤ h n) : Finset.univ.fold max ⊥ h = maxF h 50 := by
  refine le_antisymm ((Finset.fold_max_le _).mpr ⟨bot_le, fun n _ => le_maxF h n 50 n.isLt le_rfl⟩) ?_
  refine maxF_le h _ ?_ (fun n => ?_) 50 le_rfl
  · exact (Finset.le_fold_max _).mpr (Or.inr ⟨0, Finset.mem_univ _, h0 0⟩)
  · exact (Finset.le_fold_max _).mpr (Or.inr ⟨n, Finset.mem_univ _, le_rfl⟩)

/-- Where the newest object covers the cell, its value is taken. -/
theorem lastF_of (p : Fin 50 → Prop) [DecidablePred p] (v : Fin 50 → EReal) (n : Fin 50) (hn : p n) (hl : ∀ i, n < i → ¬ p i) :
    ∀ k, n.val < k → k ≤ 50 → lastF p v k = v n := by
  intro k
  induction k with
  | zero => intro a; omega
  | succ k ih =>
    intro a b
    rw [lastF, dif_pos (by omega)]
    rcases Nat.lt_succ_iff_lt_or_eq.mp a with c | c
    · rw [if_neg (hl _ c), ih c (by omega)]
    · subst c; rw [if_pos hn]

/-- Where no object covers the cell, the value is zero. -/
theorem lastF_none (p : Fin 50 → Prop) [DecidablePred p] (v : Fin 50 → EReal) (hn : ∀ i, ¬ p i) : ∀ k, lastF p v k = 0 := by
  intro k
  induction k with
  | zero => rfl
  | succ k ih => rw [lastF]; split_ifs <;> first | exact ih | exact absurd ‹_› (hn _)

/-- The signed maximum of two words, as an integer. -/
theorem maxsi_toInt (x y : BitVec 32) : (IntOp.maxsi x y).toInt = max x.toInt y.toInt := by
  unfold IntOp.maxsi
  simp only [BitVec.slt, decide_eq_true_eq]
  split_ifs <;> omega

/-- A small natural number as a signed word. -/
theorem nat_toInt (n : Fin 50) : (BitVec.ofNat 32 n.val).toInt = (n.val : ℤ) := by
  rw [BitVec.toInt_eq_toNat_cond, BitVec.toNat_ofNat, Nat.mod_eq_of_lt (by omega), if_pos (by omega)]

/-- The number of the last object chosen. -/
def lastW (w : Fin 50 → BitVec 32) : BitVec 32 := Finset.univ.fold IntOp.maxsi 2147483648#32 w

/-- The word of the last covering object, as an integer. -/
theorem lastW_toInt (w : Fin 50 → BitVec 32) : (lastW w).toInt = Finset.univ.fold max (-2147483648 : ℤ) fun n => (w n).toInt :=
  (Finset.fold_hom (op := IntOp.maxsi) (op' := (max : ℤ → ℤ → ℤ)) (m := BitVec.toInt) maxsi_toInt).symm

/-- The sum of the values of the one object whose number is the last chosen. -/
theorem sum_last (p : Fin 50 → Prop) [DecidablePred p] (v : Fin 50 → EReal) :
    (∑ n : Fin 50, if p n ∧ BitVec.ofNat 32 n.val
      = lastW (fun n => if p n then BitVec.ofNat 32 n.val else 4294967295#32) then v n else 0) = lastF p v 50 := by
  by_cases hp : ∃ n, p n
  · obtain ⟨n, hn, hl⟩ : ∃ n, p n ∧ ∀ i, n < i → ¬ p i := by
      obtain ⟨n, hn⟩ := hp
      have hne : (Finset.univ.filter p).Nonempty := ⟨n, by simp [hn]⟩
      refine ⟨(Finset.univ.filter p).max' hne, (Finset.mem_filter.mp (Finset.max'_mem _ hne)).2, fun i hi hpi => ?_⟩
      exact absurd (Finset.le_max' _ i (by simp [hpi])) (not_le.mpr hi)
    have hW : (lastW (fun n => if p n then BitVec.ofNat 32 n.val else 4294967295#32)).toInt = (n.val : ℤ) := by
      rw [lastW_toInt]
      refine le_antisymm ((Finset.fold_max_le _).mpr ⟨by omega, fun i _ => ?_⟩)
        ((Finset.le_fold_max _).mpr (Or.inr ⟨n, Finset.mem_univ _, ?_⟩))
      · show (if p i then BitVec.ofNat 32 i.val else 4294967295#32).toInt ≤ _
        split_ifs with h
        · rw [nat_toInt]
          have := not_lt.mp (fun hh => hl i hh h)
          exact_mod_cast this
        · have : (4294967295#32).toInt = -1 := by decide
          omega
      · show _ ≤ (if p n then BitVec.ofNat 32 n.val else 4294967295#32).toInt
        rw [if_pos hn, nat_toInt]
    rw [lastF_of p v n hn hl 50 n.isLt le_rfl, Finset.sum_eq_single n]
    · rw [if_pos ⟨hn, BitVec.eq_of_toInt_eq (by rw [hW, nat_toInt])⟩]
    · intro i _ hi
      rw [if_neg]
      rintro ⟨_, h⟩
      rw [← h, nat_toInt] at hW
      exact hi (Fin.ext (by exact_mod_cast hW))
    · intro h; exact absurd (Finset.mem_univ _) h
  · have hp' : ∀ n, ¬ p n := fun n h => hp ⟨n, h⟩
    rw [lastF_none p v hp' 50]
    exact Finset.sum_eq_zero fun n _ => if_neg fun h => hp' n h.1

/-- The greatest over ten classes of each class's greatest is the greatest over the objects, each of which has one class. -/
theorem fold_classes (o : Fin 50 → Fin 10 → EReal) (hc : ∀ n, (Ideal.fptosi 32 (o n 9)).toNat < 10) (y x : EReal) :
    (Finset.univ.fold max ⊥ fun ch : Fin 10 => hmS o ch.val y x) = maxF (fun n => gS (o n) y x) 50 := by
  have h0 : ∀ n, 0 ≤ gS (o n) y x := fun n => gS_nonneg _ _ _
  rw [← fold_eq_maxF _ h0]
  refine le_antisymm ((Finset.fold_max_le _).mpr ⟨bot_le, fun ch _ => ?_⟩) ((Finset.fold_max_le _).mpr ⟨bot_le, fun n _ => ?_⟩)
  · unfold hmS
    refine (Finset.fold_max_le _).mpr ⟨bot_le, fun n _ => ?_⟩
    split_ifs
    · exact (Finset.le_fold_max _).mpr (Or.inr ⟨n, Finset.mem_univ _, le_rfl⟩)
    · exact (Finset.le_fold_max _).mpr (Or.inr ⟨n, Finset.mem_univ _, h0 n⟩)
  · refine (Finset.le_fold_max _).mpr (Or.inr ⟨⟨_, hc n⟩, Finset.mem_univ _, ?_⟩)
    unfold hmS
    refine (Finset.le_fold_max _).mpr (Or.inr ⟨n, Finset.mem_univ _, ?_⟩)
    rw [if_pos (by simp)]

end Cert.Spec
-- ==== Proof.KernelIdealCell.lean ====
module

public import proofs.«01_k».proof.Proof.KernelIdealTab
public import proofs.«01_k».proof.Proof.Folds

/-! # The numbers of the kernel at an index -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open Idealize.ShloMosaic.Rounds
open Idealize.ShloMosaic.Pipeline (Dat afterRegion)
open Idealize.ShloMosaic.StableHlo (launchContents)
open Cert.Spec

variable (m : (ℓ : Loc nD τ sig) → Buf (Elt Ideal) ℓ)

/-- Object `k` of batch entry `b`. -/
def krow (c : Dev nD) (b : Fin 8) (k : Fin 50) : Fin 10 → EReal := fun n => (launchContents m c main_arg0 : S8x50x10.Idx → EReal) (ix3 b k n)

/-- The objects’ numbers, by picture and object. -/
theorem orow_at (c : Dev nD) (n : Fin 10) (b : Fin 8) (k : Fin 50) : orow m c n (ix3 0 b k) = krow m c b k n := rfl

/-- The centre’s first coordinate, in cells. -/
theorem cx_at (c : Dev nD) (b : Fin 8) (k : Fin 50) : vCx (orow m c 0) (ix2 b k) = qS (krow m c b k 0) := by
  unfold vCx k0_pay1; pointwise; rw [orow_at]; exact quarter _
/-- The centre’s second coordinate, in cells. -/
theorem cy_at (c : Dev nD) (b : Fin 8) (k : Fin 50) : vCy (orow m c 1) (ix2 b k) = qS (krow m c b k 1) := by
  unfold vCy k0_pay2; pointwise; rw [orow_at]; exact quarter _
/-- The width, in cells. -/
theorem bw_at (c : Dev nD) (b : Fin 8) (k : Fin 50) : k0_pay3 (orow m c 3) (ix2 b k) = qS (krow m c b k 3) := by
  unfold k0_pay3; pointwise; rw [orow_at]; exact quarter _
/-- The length, in cells. -/
theorem bl_at (c : Dev nD) (b : Fin 8) (k : Fin 50) : k0_pay4 (orow m c 4) (ix2 b k) = qS (krow m c b k 4) := by
  unfold k0_pay4; pointwise; rw [orow_at]; exact quarter _
/-- The centre’s cell, first coordinate. -/
theorem icx_at (c : Dev nD) (b : Fin 8) (k : Fin 50) : vIcx (orow m c 0) (ix2 b k) = flS (krow m c b k 0) := by
  unfold vIcx k0_pay9; pointwise; rw [cx_at]; rfl
/-- The centre’s cell, second coordinate. -/
theorem icy_at (c : Dev nD) (b : Fin 8) (k : Fin 50) : vIcy (orow m c 1) (ix2 b k) = flS (krow m c b k 1) := by
  unfold vIcy k0_pay10; pointwise; rw [cy_at]; rfl
/-- The radius of the window. -/
theorem rad_at (c : Dev nD) (b : Fin 8) (k : Fin 50) : vRad (orow m c 3) (orow m c 4) (ix2 b k) = radO (krow m c b k) := by
  unfold vRad k0_pay8 k0_pay5 k0_pay6 k0_pay7; pointwise
  simp only [bw_at, bl_at, Ideal.ofBits_zero_f32]
  rfl
/-- Whether the object is drawn. -/
theorem valid_at (c : Dev nD) (b : Fin 8) (k : Fin 50) :
    vValid (orow m c 0) (orow m c 1) (orow m c 3) (orow m c 4) (ix2 b k) = validS (krow m c b k) := by
  unfold vValid k0_pay13 k0_pay11 k0_pay12; pointwise
  have e9 : k0_pay9 (vCx (orow m c 0)) (ix2 b k) = flS (krow m c b k 0) := icx_at m c b k
  simp only [bw_at, bl_at, e9, icy_at, Ideal.ofBits_zero_f32]
  rfl
/-- The bell’s factor in the exponent. -/
theorem inv_at (c : Dev nD) (b : Fin 8) (k : Fin 50) :
    vInv (orow m c 0) (orow m c 1) (orow m c 3) (orow m c 4) (ix2 b k) = invO (krow m c b k) := by
  unfold vInv k0_pay14; pointwise
  simp only [rad_at, Ideal.ofBits_one_f32]
  rfl

/-- The table’s newest row, and the rows before it. -/
theorem canon14 (n : ℕ) (inb) (w : S8x1x50.Idx → EReal) (L : List (View.Piece (Elt Ideal) S8x14x50 .f32)) (b : Fin 8) (n' : Fin 14) (k : Fin 50) :
    (View.canon (⟨Rect.unit (s := S8x14x50) ![0, n, 0] S8x1x50.size inb, w⟩ :: L) : S8x14x50.Idx → EReal) (ix3 b n' k)
      = if n'.val = n then w (ix3 b 0 k) else View.canon L (ix3 b n' k) := canon_row n inb w L b n' k

/-- The float table, row by row. -/
theorem fpT_rows (c : Dev nD) (b : Fin 8) (k : Fin 50) (n : Fin 14) : fpT m c (ix3 b n k)
    = ![qS (krow m c b k 0), qS (krow m c b k 1), flS (krow m c b k 0), flS (krow m c b k 1), radO (krow m c b k), invO (krow m c b k),
        krow m c b k 2, Ideal.log (max (krow m c b k 3) (wd 0x358637BD#32)), Ideal.log (max (krow m c b k 4) (wd 0x358637BD#32)),
        Ideal.log (max (krow m c b k 5) (wd 0x358637BD#32)), Ideal.sin (krow m c b k 6), Ideal.cos (krow m c b k 6),
        krow m c b k 7, krow m c b k 8] n := by
  unfold fpT fpL
  iterate 14 rw [canon14]
  fin_cases n <;> (repeat rw [if_neg (by decide)]) <;> rw [if_pos (by decide)]
  · unfold k0_pay18; pointwise; exact cx_at m c b k
  · unfold k0_pay19; pointwise; exact cy_at m c b k
  · unfold k0_pay20; pointwise; exact icx_at m c b k
  · unfold k0_pay21; pointwise; exact icy_at m c b k
  · unfold k0_pay22; pointwise; exact rad_at m c b k
  · unfold k0_pay23; pointwise; exact inv_at m c b k
  · unfold k0_pay24; pointwise; rfl
  · unfold k0_pay26 k0_pay25; pointwise; rfl
  · unfold k0_pay27; pointwise; rfl
  · unfold k0_pay28; pointwise; rfl
  · unfold k0_pay29; pointwise; rfl
  · unfold k0_pay30; pointwise; rfl
  · unfold k0_pay31; pointwise; rfl
  · unfold k0_pay32; pointwise; rfl

/-- A choice by a bit, as a case distinction. -/
theorem sel_one {α : Type} (p : BitVec 1) (x y : α) : Scalar.select p x y = if p = 1#1 then x else y := rfl

/-- The number of a row of a window whose first row the word says. -/
def rowY (r : BitVec 32) (y : ℕ) : EReal := ((r.toInt : ℝ) : EReal) + (((BitVec.ofNat 32 y).toInt : ℝ) : EReal)

/-- One cell of the updated heatmap tile. -/
theorem pay9_at (r : BitVec 32) (icx icy rad inv : EReal) (prev : Vec Ideal S1x1x32x180 .f32) (y : Fin 32) (x : Fin 180) :
    k1_pay9 (F := Ideal) inv (k1_pay4 (F := Ideal) r icy rad) (k1_pay5 r icy inv) (k1_pay7 (F := Ideal) icx rad) (k1_pay8 icx) (Scalar.ofBits .f32 0x00000000#32) prev (ix4 0 0 y x)
    = max (prev (ix4 0 0 y x)) (kS icx icy rad inv (rowY r y.val) (((BitVec.ofNat 32 x.val).toInt : ℝ) : EReal)) := by
  unfold k1_pay9 k1_pay4 k1_pay5 k1_pay7 k1_pay8 k1_pay6 k1_pay3 k1_pay2
  pointwise
  rw [sel_one]
  try simp only [Ideal.ofBits_zero_f32]
  rfl

/-- One cell of the updated weight tile. -/
theorem pay17_at (r : BitVec 32) (icx icy rad inv : EReal) (X : Vec Ideal S1x384 .f32) (prev : Vec Ideal S1x32x384 .f32) (y : Fin 32) (l : Fin 384) :
    k1_pay17 (F := Ideal) (k1_pay13 icx inv (k1_pay5 r icy inv) X) (k1_pay14 (k1_pay4 (F := Ideal) r icy rad)) (k1_pay15 (F := Ideal) icx rad X) prev (ix3 0 y l)
    = max (prev (ix3 0 y l)) (kS icx icy rad inv (rowY r y.val) (X (ix2 0 l))) := by
  unfold k1_pay17 k1_pay16 k1_pay13 k1_pay14 k1_pay15 k1_pay12 k1_pay10 k1_pay4 k1_pay5 k1_pay3 k1_pay2
  pointwise
  rw [sel_one]
  try simp only [Ideal.ofBits_zero_f32]
  rfl

/-- One cell of the updated target tile. -/
theorem pay24_at (r : BitVec 32) (icx icy rad cx cy v2 v3 v4 v5 v6 v7 v8 v9 : EReal) (X Q : Vec Ideal S1x384 .f32) (prev : Vec Ideal S1x32x384 .f32)
    (y : Fin 32) (l : Fin 384) (ch : Fin 10) (hq : Q (ix2 0 l) = ((ch.val : ℝ) : EReal)) :
    k1_pay24 (F := Ideal) cx cy (k1_pay2 r) (k1_pay10 X) (k1_pay11 Q) (k1_pay16 (k1_pay14 (k1_pay4 (F := Ideal) r icy rad)) (k1_pay15 (F := Ideal) icx rad X))
      (k1_pay18 (k1_pay11 Q)) v2 (k1_pay19 (k1_pay11 Q)) v3 (k1_pay20 (k1_pay11 Q)) v4 (k1_pay21 (k1_pay11 Q)) v5
      (k1_pay22 (k1_pay11 Q)) v6 (k1_pay23 (k1_pay11 Q)) v7 (Scalar.ofBits .f32 0x41000000#32) v8 v9 prev (ix3 0 y l)
    = if IntOp.andi (nearS (rowY r y.val - icy) rad) (nearS (X (ix2 0 l) - icx) rad) = 1#1
      then ![cx - X (ix2 0 l), cy - rowY r y.val, v2, v3, v4, v5, v6, v7, v8, v9] ch else prev (ix3 0 y l) := by
  unfold k1_pay24 k1_pay18 k1_pay19 k1_pay20 k1_pay21 k1_pay22 k1_pay23 k1_pay16 k1_pay14 k1_pay15 k1_pay12 k1_pay10 k1_pay11 k1_pay4 k1_pay3 k1_pay2
  pointwise
  rw [sel_one]
  refine if_congr Iff.rfl ?_ rfl
  have e0 : ((ch.val : ℝ) : EReal) = 0 ↔ ch.val = 0 := by rw [EReal.coe_eq_zero, Nat.cast_eq_zero]
  have e1 : ((ch.val : ℝ) : EReal) = 1 ↔ ch.val = 1 := by rw [EReal.coe_eq_one, Nat.cast_eq_one]
  have en : ∀ (b : BitVec 32) (n : ℕ), wd b = ((n : ℝ) : EReal) → (((ch.val : ℝ) : EReal) = Ideal.ofBits .f32 b ↔ ch.val = n) := fun b n hb => by
    rw [show Ideal.ofBits .f32 b = ((n : ℝ) : EReal) from hb, EReal.coe_eq_coe_iff, Nat.cast_inj]
  simp only [hq, e0, e1, en _ 2 wd_2, en _ 3 wd_3, en _ 4 wd_4, en _ 5 wd_5, en _ 6 wd_6, en _ 7 wd_7, en _ 8 wd_8]
  fin_cases ch <;> rfl

end Cert.KernelIdeal.Main
-- ==== Proof.KernelIdealLane.lean ====
module

public import proofs.«01_k».proof.Proof.KernelIdealTab
public import proofs.«01_k».proof.Proof.Folds
public import proofs.«01_k».proof.Proof.KernelIdealCell

/-! # The coordinate lanes -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open Idealize.ShloMosaic.Rounds
open Idealize.ShloMosaic.Pipeline (Dat afterRegion)
open Idealize.ShloMosaic.StableHlo (launchContents)
open Cert.Spec

variable (m : (ℓ : Loc nD τ sig) → Buf (Elt Ideal) ℓ) (outs : Outs (F := Ideal))

theorem index1_3 : ∀ (t : Fin cfg1.N) (a), (cfg1.win 3).index t a = 0 :=
  (by decide +kernel : ∀ (t : Fin grid1.N) (a : Fin 2), (win1 3).index t a = 0)
theorem index1_4 : ∀ (t : Fin cfg1.N) (a), (cfg1.win 4).index t a = 0 :=
  (by decide +kernel : ∀ (t : Fin grid1.N) (a : Fin 2), (win1 4).index t a = 0)

set_option backward.isDefEq.respectTransparency.types false in
theorem iblk1_3 (W : Dev nD → Valuation τ sig (Elt Ideal)) (c : Dev nD) (t : Fin cfg1.N) (j : S1x1920.Idx) :
    iblk1 W c 3 t j = (W c main_v5 : S1x1920.Idx → EReal) j := by
  unfold iblk1
  rw [View.read_apply]
  show (W c main_v5 : S1x1920.Idx → EReal) (((cfg1.win 3).rect t).emb j) = _
  refine congrArg _ ?_
  funext a
  apply Fin.ext
  rw [Pipeline.Window.rect_emb_val_off, index1_3]
  show 0 * _ + _ = _
  omega

set_option backward.isDefEq.respectTransparency.types false in
theorem iblk1_4 (W : Dev nD → Valuation τ sig (Elt Ideal)) (c : Dev nD) (t : Fin cfg1.N) (j : S1x1920.Idx) :
    iblk1 W c 4 t j = (W c main_v9 : S1x1920.Idx → EReal) j := by
  unfold iblk1
  rw [View.read_apply]
  show (W c main_v9 : S1x1920.Idx → EReal) (((cfg1.win 4).rect t).emb j) = _
  refine congrArg _ ?_
  funext a
  apply Fin.ext
  rw [Pipeline.Window.rect_emb_val_off, index1_4]
  show 0 * _ + _ = _
  omega

theorem V5_v5 (c : Dev nD) : (V7 m outs c main_v5 : S1x1920.Idx → EReal)
    = broadcastInDim S1x1920 ![1] bcast_S1920_S1x1920_1 (sitofp (F := Ideal) .f32 (V4 m outs c main_v3 : S1920.Idx → BitVec 32)) := by
  rw [V7_of m _ c main_v5 (by decide), V6_of m _ c main_v5 (by decide)]
  show StableHlo.after hostOps1_2 (V4 m outs c) main_v5 = _
  after_results
  try rfl

theorem V7_v9 (c : Dev nD) : (V7 m outs c main_v9 : S1x1920.Idx → EReal)
    = broadcastInDim S1x1920 ![1] bcast_S1920_S1x1920_1 (sitofp (F := Ideal) .f32 (V6 m outs c main_v7 : S1920.Idx → BitVec 32)) := by
  show StableHlo.after hostOps1_4 (V6 m outs c) main_v9 = _
  after_results
  try rfl

theorem V3_v2 (c : Dev nD) : (V3 m outs c main_v2 : S1920.Idx → BitVec 32) = iotaInDim S1920 32 0 := by
  show StableHlo.after hostOps1 (V2 m outs c) main_v2 = _
  after_results
theorem V3_c (c : Dev nD) : (V3 m outs c main_c : S_.Idx → BitVec 32) = constantI S_ 32 10#32 := by
  show StableHlo.after hostOps1 (V2 m outs c) main_c = _
  after_results
theorem V5_v6 (c : Dev nD) : (V5 m outs c main_v6 : S1920.Idx → BitVec 32) = iotaInDim S1920 32 0 := by
  show StableHlo.after hostOps1_2 (V4 m outs c) main_v6 = _
  after_results
theorem V5_c0 (c : Dev nD) : (V5 m outs c main_c_0 : S_.Idx → BitVec 32) = constantI S_ 32 10#32 := by
  show StableHlo.after hostOps1_2 (V4 m outs c) main_c_0 = _
  after_results

theorem V4_v3 (c : Dev nD) (l : Fin 1920) : (V4 m outs c main_v3 : S1920.Idx → BitVec 32) (ix1 l) = BitVec.ofNat 32 (l.val / 10) := by
  have h2 := V3_v2 m outs c
  have hc := V3_c m outs c
  have e : (StableHlo.after hostOps1_1 (V3 m outs c) main_v3 : S1920.Idx → BitVec 32) (ix1 l) = BitVec.ofNat 32 (l.val / 10) := by
    generalize V3 m outs c = W at *
    after_results
    rw [h2, hc]
    pointwise
    revert l
    decide +kernel
  exact e

theorem V6_v7 (c : Dev nD) (l : Fin 1920) : (V6 m outs c main_v7 : S1920.Idx → BitVec 32) (ix1 l) = BitVec.ofNat 32 (l.val % 10) := by
  have h2 := V5_v6 m outs c
  have hc := V5_c0 m outs c
  have e : (StableHlo.after hostOps1_3 (V5 m outs c) main_v7 : S1920.Idx → BitVec 32) (ix1 l) = BitVec.ofNat 32 (l.val % 10) := by
    generalize V5 m outs c = W at *
    after_results
    rw [h2, hc]
    pointwise
    revert l
    decide +kernel
  exact e

theorem wordE (y : ℕ) (h : y < 2 ^ 31) : (((BitVec.ofNat 32 y).toInt : ℝ) : EReal) = ((y : ℝ) : EReal) := by
  rw [BitVec.toInt_eq_toNat_cond, BitVec.toNat_ofNat, Nat.mod_eq_of_lt (by omega), if_pos (by omega)]; rfl

/-- The column of a lane. -/
theorem lane_x (c : Dev nD) (t : Fin cfg1.N) (l : Fin 1920) : iblk1 (V7 m outs) c 3 t (ix2 0 l) = (((l.val / 10 : ℕ) : ℝ) : EReal) := by
  rw [iblk1_3, V5_v5]
  pointwise
  rw [V4_v3]
  exact wordE _ (by omega)

/-- The channel of a lane. -/
theorem lane_ch (c : Dev nD) (t : Fin cfg1.N) (l : Fin 1920) : iblk1 (V7 m outs) c 4 t (ix2 0 l) = (((l.val % 10 : ℕ) : ℝ) : EReal) := by
  rw [iblk1_4, V7_v9]
  pointwise
  rw [V6_v7]
  exact wordE _ (by omega)

end Cert.KernelIdeal.Main
-- ==== Proof.KernelIdealStep.lean ====
module

public import proofs.«01_k».proof.Proof.KernelIdealTab
public import proofs.«01_k».proof.Proof.Folds
public import proofs.«01_k».proof.Proof.KernelIdealCell
public import proofs.«01_k».proof.Proof.KernelIdealLane

/-! # What one object does to the blocks -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open Idealize.ShloMosaic.Rounds
open Idealize.ShloMosaic.Pipeline (Dat afterRegion)
open Idealize.ShloMosaic.StableHlo (launchContents)
open Cert.Spec

variable (m : (ℓ : Loc nD τ sig) → Buf (Elt Ideal) ℓ)

theorem off4_eq : ∀ k : Fin k1_t1_loop.trips, k1_off4 k = ![0, 0, k.val] := by decide +kernel
theorem off5_eq : ∀ k : Fin k1_t1_loop.trips, k1_off5 k = ![0, 1, k.val] := by decide +kernel
theorem off6_eq : ∀ k : Fin k1_t1_loop.trips, k1_off6 k = ![0, 2, k.val] := by decide +kernel
theorem off7_eq : ∀ k : Fin k1_t1_loop.trips, k1_off7 k = ![0, 3, k.val] := by decide +kernel
theorem off8_eq : ∀ k : Fin k1_t1_loop.trips, k1_off8 k = ![0, 4, k.val] := by decide +kernel
theorem off9_eq : ∀ k : Fin k1_t1_loop.trips, k1_off9 k = ![0, 5, k.val] := by decide +kernel
theorem off14_eq : ∀ k : Fin k1_t1_loop.trips, k1_off14 k = ![0, 6, k.val] := by decide +kernel
theorem off15_eq : ∀ k : Fin k1_t1_loop.trips, k1_off15 k = ![0, 7, k.val] := by decide +kernel
theorem off16_eq : ∀ k : Fin k1_t1_loop.trips, k1_off16 k = ![0, 8, k.val] := by decide +kernel
theorem off17_eq : ∀ k : Fin k1_t1_loop.trips, k1_off17 k = ![0, 9, k.val] := by decide +kernel
theorem off18_eq : ∀ k : Fin k1_t1_loop.trips, k1_off18 k = ![0, 10, k.val] := by decide +kernel
theorem off19_eq : ∀ k : Fin k1_t1_loop.trips, k1_off19 k = ![0, 11, k.val] := by decide +kernel
theorem off20_eq : ∀ k : Fin k1_t1_loop.trips, k1_off20 k = ![0, 12, k.val] := by decide +kernel
theorem off21_eq : ∀ k : Fin k1_t1_loop.trips, k1_off21 k = ![0, 13, k.val] := by decide +kernel

variable (c : Dev nD) (t : Fin cfg1.N)

/-- The batch entry of a grid point. -/
abbrev bt : Fin 8 := ⟨t.val, t.isLt⟩
/-- The object of a trip. -/
abbrev ko (k : Fin k1_t1_loop.trips) : Fin 50 := ⟨k.val, lt_of_lt_of_eq k.isLt trips_eq⟩
/-- The object a trip draws. -/
abbrev ob (k : Fin k1_t1_loop.trips) : Fin 10 → EReal := krow m c (bt t) (ko k)

/-- What the heatmaps' block holds. -/
def rd7 (f : Buf (Elt Ideal) ((st1_6 t).view.loc (c : Thread nD τ))) : S1x10x184x180.Idx → EReal := (st1_6 t).view.read (Elt Ideal) f
/-- What the targets' block holds. -/
def rd8 (f : Buf (Elt Ideal) ((st1_7 t).view.loc (c : Thread nD τ))) : S1x184x1920.Idx → EReal := (st1_7 t).view.read (Elt Ideal) f
/-- What the weights' block holds. -/
def rd9 (f : Buf (Elt Ideal) ((st1_8 t).view.loc (c : Thread nD τ))) : S1x184x1920.Idx → EReal := (st1_8 t).view.read (Elt Ideal) f

variable (k : Fin k1_t1_loop.trips)

theorem cond_word : ∀ v : BitVec 1, k1_cond1 (v.setWidth 32) = 1#1 ↔ v = 1#1 := by decide
theorem cond_iff : k1_cond1 (wValid (F := Ideal) c (st1_2 t) (ti (V7 m (outsA m)) c t) k) = 1#1 ↔ validS (ob m c t k) = 1#1 := by
  unfold wValid
  rw [iw_eq m c t _ _ 2 (ko k) (off1_eq k), ipT_row2, valid_at]
  exact cond_word _

theorem cls_eq : wCls (F := Ideal) c (st1_2 t) (ti (V7 m (outsA m)) c t) k = Ideal.fptosi 32 (ob m c t k 9) := by
  unfold wCls
  rw [iw_eq m c t _ _ 0 (ko k) (off2_eq k), ipT_row0, orow_at]
  rfl

theorem row_eq (i j : ℕ) (ρ : ℝ) (d : Drawn (ob m c t k) i j ρ) :
    (wRow (F := Ideal) c (st1_2 t) (ti (V7 m (outsA m)) c t) k).toNat = min 152 (8 * ((j - 11) / 8)) := by
  unfold wRow
  rw [iw_eq m c t _ _ 1 (ko k) (off3_eq k), ipT_row1, pay16_eq, icy_at]
  refine Eq.trans ?_ (srow_val ⟨j, d.hj⟩)
  exact congrArg (fun w => (srow w).toNat) d.wj

theorem lane_eq (i j : ℕ) (ρ : ℝ) (d : Drawn (ob m c t k) i j ρ) :
    (wLane (F := Ideal) c (st1_2 t) (ti (V7 m (outsA m)) c t) k).toNat = min 1536 (128 * ((10 * (i - 11)) / 128)) := by
  unfold wLane
  rw [iw_eq m c t _ _ 3 (ko k) (off11_eq k), ipT_row3, pay17_eq, icx_at]
  refine Eq.trans ?_ (slane_val ⟨i, d.hi⟩)
  exact congrArg (fun w => (slane w).toNat) d.wi

theorem icx_word : wIcx (F := Ideal) c (st1_1 t) (tp (V7 m (outsA m)) c t) k = flS (ob m c t k 0) := by
  unfold wIcx; rw [fw_eq m c t _ _ 2 (ko k) (off6_eq k), fpT_rows]; rfl
theorem icy_word : wIcy (F := Ideal) c (st1_1 t) (tp (V7 m (outsA m)) c t) k = flS (ob m c t k 1) := by
  unfold wIcy; rw [fw_eq m c t _ _ 3 (ko k) (off7_eq k), fpT_rows]; rfl
theorem rad_word : wRad (F := Ideal) c (st1_1 t) (tp (V7 m (outsA m)) c t) k = radO (ob m c t k) := by
  unfold wRad; rw [fw_eq m c t _ _ 4 (ko k) (off8_eq k), fpT_rows]; rfl
theorem inv_word : wInv (F := Ideal) c (st1_1 t) (tp (V7 m (outsA m)) c t) k = invO (ob m c t k) := by
  unfold wInv; rw [fw_eq m c t _ _ 5 (ko k) (off9_eq k), fpT_rows]; rfl

theorem rowY_eq (r : BitVec 32) (y' y : ℕ) (h : r.toNat + y' = y) (hs : y < 2 ^ 31) : rowY r y' = ((y : ℝ) : EReal) := by
  unfold rowY
  have e : r.toInt = ((r.toNat : ℕ) : ℤ) := by rw [BitVec.toInt_eq_toNat_cond, if_pos (by omega)]
  rw [wordE y' (by omega), e, ← EReal.coe_add, ← h]
  push_cast
  rfl

section
variable (h1 : k1_cond1 (wValid (F := Ideal) c (st1_2 t) (ti (V7 m (outsA m)) c t) k) = 1#1)
  (hok : TripOK (F := Ideal) c (st1_2 t) (ti (V7 m (outsA m)) c t) k)

theorem vX_at (l : Fin 1920) (l' : Fin 384) (hl : (wLane (F := Ideal) c (st1_2 t) (ti (V7 m (outsA m)) c t) k).toNat + l'.val = l.val) :
    vX (F := Ideal) c (st1_2 t) (st1_3 t) (ti (V7 m (outsA m)) c t) (tx (V7 m (outsA m)) c t) k h1 hok (ix2 0 l')
      = (((l.val / 10 : ℕ) : ℝ) : EReal) := by
  refine Eq.trans ?_ (lane_x m (outsA m) c t l)
  unfold vX tx
  rw [View.readAt_apply, View.read_rep]
  refine congrArg _ ?_
  funext a
  apply Fin.ext
  fin_cases a
  · rfl
  · show (wLane (F := Ideal) c (st1_2 t) (ti (V7 m (outsA m)) c t) k).toNat + 1 * l'.val = l.val
    omega

theorem vQ_at (l : Fin 1920) (l' : Fin 384) (hl : (wLane (F := Ideal) c (st1_2 t) (ti (V7 m (outsA m)) c t) k).toNat + l'.val = l.val) :
    vQ (F := Ideal) c (st1_2 t) (st1_4 t) (ti (V7 m (outsA m)) c t) (ty (V7 m (outsA m)) c t) k h1 hok (ix2 0 l')
      = (((l.val % 10 : ℕ) : ℝ) : EReal) := by
  refine Eq.trans ?_ (lane_ch m (outsA m) c t l)
  unfold vQ ty
  rw [View.readAt_apply, View.read_rep]
  refine congrArg _ ?_
  funext a
  apply Fin.ext
  fin_cases a
  · rfl
  · show (wLane (F := Ideal) c (st1_2 t) (ti (V7 m (outsA m)) c t) k).toNat + 1 * l'.val = l.val
    omega

theorem w9_at (f : Buf (Elt Ideal) ((st1_8 t).view.loc (c : Thread nD τ))) (hv : validS (ob m c t k) = 1#1) (i j : ℕ) (ρ : ℝ)
    (d : Drawn (ob m c t k) i j ρ) (y : Fin 184) (l : Fin 1920) (y' : Fin 32) (l' : Fin 384)
    (hy : (wRow (F := Ideal) c (st1_2 t) (ti (V7 m (outsA m)) c t) k).toNat + y'.val = y.val)
    (hl : (wLane (F := Ideal) c (st1_2 t) (ti (V7 m (outsA m)) c t) k).toNat + l'.val = l.val) :
    (w9 (F := Ideal) c (st1_1 t) (st1_2 t) (st1_3 t) (st1_8 t) (tp (V7 m (outsA m)) c t) (ti (V7 m (outsA m)) c t) (tx (V7 m (outsA m)) c t) k h1 hok f
        : S1x32x384.Idx → EReal) (ix3 0 y' l')
      = max (rd9 c t f (ix3 0 y l))
          (gS (ob m c t k) ((y.val : ℝ) : EReal) (((l.val / 10 : ℕ) : ℝ) : EReal)) := by
  unfold w9
  refine (pay17_at _ _ _ _ _ _ _ y' l').trans ?_
  rw [vX_at m c t k h1 hok l l' hl, rowY_eq _ y'.val y.val hy (by omega), icx_word, icy_word, rad_word, inv_word, kS_eq _ hv i j ρ d]
  refine congrArg (fun w : EReal => max w _) ?_
  rw [View.readAt_apply]
  refine congrArg _ ?_
  funext a
  apply Fin.ext
  fin_cases a
  · rfl
  · show (wRow (F := Ideal) c (st1_2 t) (ti (V7 m (outsA m)) c t) k).toNat + 1 * y'.val = y.val
    omega
  · show (wLane (F := Ideal) c (st1_2 t) (ti (V7 m (outsA m)) c t) k).toNat + 1 * l'.val = l.val
    omega
end

variable (hok : AllOK m) (h3 : krow m c (bt t) (ko k) 3 ≤ ((40 : ℝ) : EReal)) (h4 : krow m c (bt t) (ko k) 4 ≤ ((40 : ℝ) : EReal))

include hok h3 h4 in
/-- One trip on the weights, at a cell. -/
theorem step9_at (f : Buf (Elt Ideal) ((st1_8 t).view.loc (c : Thread nD τ))) (y : Fin 184) (l : Fin 1920)
    (h0 : 0 ≤ rd9 c t f (ix3 0 y l)) :
    rd9 c t (step9 (F := Ideal) c (st1_1 t) (st1_2 t) (st1_3 t) (st1_8 t) (tp (V7 m (outsA m)) c t)
        (ti (V7 m (outsA m)) c t) (tx (V7 m (outsA m)) c t) k f) (ix3 0 y l)
      = max (rd9 c t f (ix3 0 y l))
          (gS (ob m c t k) ((y.val : ℝ) : EReal) (((l.val / 10 : ℕ) : ℝ) : EReal)) := by
  unfold step9
  by_cases hv : validS (ob m c t k) = 1#1
  · obtain ⟨i, j, ρ, d⟩ := drawn _ hv h3 h4
    have hc := (cond_iff m c t k).mpr hv
    rw [dif_pos ⟨hc, hok c t k⟩]
    have hR := row_eq m c t k i j ρ d
    have hL := lane_eq m c t k i j ρ d
    by_cases hin : (min 152 (8 * ((j - 11) / 8)) ≤ y.val ∧ y.val < min 152 (8 * ((j - 11) / 8)) + 32)
        ∧ (min 1536 (128 * ((10 * (i - 11)) / 128)) ≤ l.val ∧ l.val < min 1536 (128 * ((10 * (i - 11)) / 128)) + 384)
    · obtain ⟨⟨y0, y1⟩, l0, l1⟩ := hin
      refine (View.read_writes_cons_unit_of_mem (st1_8 t).view f _ _ [] (ix3 0 y l)
        (ix3 0 (⟨y.val - min 152 (8 * ((j - 11) / 8)), by omega⟩ : Fin 32) (⟨l.val - min 1536 (128 * ((10 * (i - 11)) / 128)), by omega⟩ : Fin 384))
        rfl ?_).trans ?_
      · intro a
        fin_cases a
        · rfl
        · show y.val = (wRow (F := Ideal) c (st1_2 t) (ti (V7 m (outsA m)) c t) k).toNat + (y.val - min 152 (8 * ((j - 11) / 8)))
          omega
        · show l.val = (wLane (F := Ideal) c (st1_2 t) (ti (V7 m (outsA m)) c t) k).toNat + (l.val - min 1536 (128 * ((10 * (i - 11)) / 128)))
          omega
      · exact w9_at m c t k hc (hok c t k) f hv i j ρ d y l _ _ (by show _ + (y.val - _) = _; omega) (by show _ + (l.val - _) = _; omega)
    · rw [gS_out, max_eq_left h0]
      · have hout : (y.val < min 152 (8 * ((j - 11) / 8)) ∨ min 152 (8 * ((j - 11) / 8)) + 32 ≤ y.val)
          ∨ (l.val < min 1536 (128 * ((10 * (i - 11)) / 128)) ∨ min 1536 (128 * ((10 * (i - 11)) / 128)) + 384 ≤ l.val) := by omega
        rcases hout with ho | ho
        · refine View.read_writes_cons_unit_of_not_mem (st1_8 t).view f _ _ [] (ix3 0 y l) rfl 1 ?_
          show y.val < (wRow (F := Ideal) c (st1_2 t) (ti (V7 m (outsA m)) c t) k).toNat
            ∨ (wRow (F := Ideal) c (st1_2 t) (ti (V7 m (outsA m)) c t) k).toNat + 32 ≤ y.val
          omega
        · refine View.read_writes_cons_unit_of_not_mem (st1_8 t).view f _ _ [] (ix3 0 y l) rfl 2 ?_
          show l.val < (wLane (F := Ideal) c (st1_2 t) (ti (V7 m (outsA m)) c t) k).toNat
            ∨ (wLane (F := Ideal) c (st1_2 t) (ti (V7 m (outsA m)) c t) k).toNat + 384 ≤ l.val
          omega
      · intro hs
        have := inS_near _ i j ρ d _ _ hs
        have hi := d.hi
        have hj := d.hj
        omega
  · rw [dif_neg fun h => hv ((cond_iff m c t k).mp h.1), gS_out _ _ _ fun hs => hv (inS_valid _ _ _ hs), max_eq_left h0]

end Cert.KernelIdeal.Main
-- ==== Proof.KernelIdealStepMore.lean ====
module

public import proofs.«01_k».proof.Proof.KernelIdealTab
public import proofs.«01_k».proof.Proof.Folds
public import proofs.«01_k».proof.Proof.KernelIdealStep

/-! # What one object does to the heatmaps and to the targets -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open Idealize.ShloMosaic.Rounds
open Idealize.ShloMosaic.Pipeline (Dat afterRegion)
open Idealize.ShloMosaic.StableHlo (launchContents)
open Cert.Spec

variable (m : (ℓ : Loc nD τ sig) → Buf (Elt Ideal) ℓ) (c : Dev nD) (t : Fin cfg1.N) (k : Fin k1_t1_loop.trips)

section
variable (h1 : k1_cond1 (wValid (F := Ideal) c (st1_2 t) (ti (V7 m (outsA m)) c t) k) = 1#1)
  (hok : TripOK (F := Ideal) c (st1_2 t) (ti (V7 m (outsA m)) c t) k)

theorem w7_at (f : Buf (Elt Ideal) ((st1_6 t).view.loc (c : Thread nD τ))) (hv : validS (ob m c t k) = 1#1) (i j : ℕ) (ρ : ℝ)
    (d : Drawn (ob m c t k) i j ρ) (ch : Fin 10) (y : Fin 184) (x : Fin 180) (y' : Fin 32)
    (hc : (wCls (F := Ideal) c (st1_2 t) (ti (V7 m (outsA m)) c t) k).toNat = ch.val) (hy : (wRow (F := Ideal) c (st1_2 t) (ti (V7 m (outsA m)) c t) k).toNat + y'.val = y.val) :
    (w7 (F := Ideal) c (st1_1 t) (st1_2 t) (st1_6 t) (tp (V7 m (outsA m)) c t) (ti (V7 m (outsA m)) c t) k h1 hok f : S1x1x32x180.Idx → EReal) (ix4 0 0 y' x)
      = max (rd7 c t f (ix4 0 ch y x)) (gS (ob m c t k) ((y.val : ℝ) : EReal) ((x.val : ℝ) : EReal)) := by
  unfold w7
  refine (pay9_at _ _ _ _ _ _ y' x).trans ?_
  rw [wordE x.val (by omega), rowY_eq _ y'.val y.val hy (by omega), icx_word, icy_word, rad_word, inv_word, kS_eq _ hv i j ρ d]
  refine congrArg (fun w : EReal => max w _) ?_
  unfold rd7
  rw [View.readAt_apply]
  refine congrArg _ ?_
  funext a
  apply Fin.ext
  fin_cases a
  · rfl
  · show (wCls (F := Ideal) c (st1_2 t) (ti (V7 m (outsA m)) c t) k).toNat + 1 * 0 = ch.val
    omega
  · show (wRow (F := Ideal) c (st1_2 t) (ti (V7 m (outsA m)) c t) k).toNat + 1 * y'.val = y.val
    omega
  · show 0 + 1 * x.val = x.val
    omega

theorem w8_at (f : Buf (Elt Ideal) ((st1_7 t).view.loc (c : Thread nD τ))) (hv : validS (ob m c t k) = 1#1)
    (y : Fin 184) (l : Fin 1920) (y' : Fin 32) (l' : Fin 384) (ch : Fin 10) (hch : ch.val = l.val % 10)
    (hy : (wRow (F := Ideal) c (st1_2 t) (ti (V7 m (outsA m)) c t) k).toNat + y'.val = y.val) (hl : (wLane (F := Ideal) c (st1_2 t) (ti (V7 m (outsA m)) c t) k).toNat + l'.val = l.val) :
    (w8 (F := Ideal) c (st1_1 t) (st1_2 t) (st1_3 t) (st1_4 t) (st1_7 t) (tp (V7 m (outsA m)) c t) (ti (V7 m (outsA m)) c t) (tx (V7 m (outsA m)) c t) (ty (V7 m (outsA m)) c t) k h1 hok f
        : S1x32x384.Idx → EReal) (ix3 0 y' l')
      = if inS (ob m c t k) ((y.val : ℝ) : EReal) (((l.val / 10 : ℕ) : ℝ) : EReal) = 1#1
        then valS (ob m c t k) ch ((y.val : ℝ) : EReal) (((l.val / 10 : ℕ) : ℝ) : EReal) else rd8 c t f (ix3 0 y l) := by
  unfold w8
  refine (pay24_at _ _ _ _ _ _ _ _ _ _ _ _ _ _ _ _ _ y' l' ch (by rw [vQ_at m c t k h1 hok l l' hl, hch])).trans ?_
  rw [vX_at m c t k h1 hok l l' hl, rowY_eq _ y'.val y.val hy (by omega), icx_word, icy_word, rad_word,
    fw_eq m c t _ _ 0 (ko k) (off4_eq k), fw_eq m c t _ _ 1 (ko k) (off5_eq k), fw_eq m c t _ _ 6 (ko k) (off14_eq k),
    fw_eq m c t _ _ 7 (ko k) (off15_eq k), fw_eq m c t _ _ 8 (ko k) (off16_eq k), fw_eq m c t _ _ 9 (ko k) (off17_eq k),
    fw_eq m c t _ _ 10 (ko k) (off18_eq k), fw_eq m c t _ _ 11 (ko k) (off19_eq k), fw_eq m c t _ _ 12 (ko k) (off20_eq k),
    fw_eq m c t _ _ 13 (ko k) (off21_eq k)]
  simp only [fpT_rows]
  refine if_congr (inS_iff _ hv _ _) rfl ?_
  unfold rd8
  rw [View.readAt_apply]
  refine congrArg _ ?_
  funext a
  apply Fin.ext
  fin_cases a
  · rfl
  · show (wRow (F := Ideal) c (st1_2 t) (ti (V7 m (outsA m)) c t) k).toNat + 1 * y'.val = y.val
    omega
  · show (wLane (F := Ideal) c (st1_2 t) (ti (V7 m (outsA m)) c t) k).toNat + 1 * l'.val = l.val
    omega
end

variable (hok : AllOK m) (h3 : krow m c (bt t) (ko k) 3 ≤ ((40 : ℝ) : EReal)) (h4 : krow m c (bt t) (ko k) 4 ≤ ((40 : ℝ) : EReal))

include hok h3 h4 in
/-- One trip on the heatmaps, at a cell. -/
theorem step7_at (f : Buf (Elt Ideal) ((st1_6 t).view.loc (c : Thread nD τ))) (ch : Fin 10) (y : Fin 184) (x : Fin 180)
    (h0 : 0 ≤ rd7 c t f (ix4 0 ch y x)) :
    rd7 c t (step7 (F := Ideal) c (st1_1 t) (st1_2 t) (st1_6 t) (tp (V7 m (outsA m)) c t) (ti (V7 m (outsA m)) c t) k f) (ix4 0 ch y x)
      = max (rd7 c t f (ix4 0 ch y x)) (if Ideal.fptosi 32 (ob m c t k 9) = BitVec.ofNat 32 ch.val
          then gS (ob m c t k) ((y.val : ℝ) : EReal) ((x.val : ℝ) : EReal) else 0) := by
  unfold step7
  have hcls : Ideal.fptosi 32 (ob m c t k 9) = BitVec.ofNat 32 ch.val ↔ (wCls (F := Ideal) c (st1_2 t) (ti (V7 m (outsA m)) c t) k).toNat = ch.val := by
    rw [cls_eq]
    constructor
    · intro h; rw [h, BitVec.toNat_ofNat]; omega
    · intro h; apply BitVec.eq_of_toNat_eq; rw [h, BitVec.toNat_ofNat]; omega
  rw [if_congr hcls rfl rfl]
  by_cases hv : validS (ob m c t k) = 1#1
  · obtain ⟨i, j, ρ, d⟩ := drawn _ hv h3 h4
    have hc := (cond_iff m c t k).mpr hv
    rw [dif_pos ⟨hc, hok c t k⟩]
    have hR := row_eq m c t k i j ρ d
    by_cases hq : (wCls (F := Ideal) c (st1_2 t) (ti (V7 m (outsA m)) c t) k).toNat = ch.val
    · rw [if_pos hq]
      by_cases hin : min 152 (8 * ((j - 11) / 8)) ≤ y.val ∧ y.val < min 152 (8 * ((j - 11) / 8)) + 32
      · obtain ⟨y0, y1⟩ := hin
        refine (View.read_writes_cons_unit_of_mem (st1_6 t).view f _ _ [] (ix4 0 ch y x)
          (ix4 0 0 (⟨y.val - min 152 (8 * ((j - 11) / 8)), by omega⟩ : Fin 32) x) rfl ?_).trans ?_
        · intro a
          fin_cases a
          · rfl
          · show ch.val = (wCls (F := Ideal) c (st1_2 t) (ti (V7 m (outsA m)) c t) k).toNat + 0
            omega
          · show y.val = (wRow (F := Ideal) c (st1_2 t) (ti (V7 m (outsA m)) c t) k).toNat + (y.val - min 152 (8 * ((j - 11) / 8)))
            omega
          · show x.val = 0 + x.val
            omega
        · exact w7_at m c t k hc (hok c t k) f hv i j ρ d ch y x _ hq (by show _ + (y.val - _) = _; omega)
      · rw [gS_out, max_eq_left h0]
        · refine View.read_writes_cons_unit_of_not_mem (st1_6 t).view f _ _ [] (ix4 0 ch y x) rfl 2 ?_
          show y.val < (wRow (F := Ideal) c (st1_2 t) (ti (V7 m (outsA m)) c t) k).toNat ∨ (wRow (F := Ideal) c (st1_2 t) (ti (V7 m (outsA m)) c t) k).toNat + 32 ≤ y.val
          omega
        · intro hs
          have := inS_near _ i j ρ d _ _ hs
          have hj := d.hj
          omega
    · rw [if_neg hq, max_eq_left h0]
      refine View.read_writes_cons_unit_of_not_mem (st1_6 t).view f _ _ [] (ix4 0 ch y x) rfl 1 ?_
      show ch.val < (wCls (F := Ideal) c (st1_2 t) (ti (V7 m (outsA m)) c t) k).toNat ∨ (wCls (F := Ideal) c (st1_2 t) (ti (V7 m (outsA m)) c t) k).toNat + 1 ≤ ch.val
      omega
  · rw [dif_neg fun h => hv ((cond_iff m c t k).mp h.1), gS_out _ _ _ fun hs => hv (inS_valid _ _ _ hs)]
    split_ifs <;> rw [max_eq_left h0]

include hok h3 h4 in
/-- One trip on the targets, at a cell. -/
theorem step8_at (f : Buf (Elt Ideal) ((st1_7 t).view.loc (c : Thread nD τ))) (y : Fin 184) (l : Fin 1920) (ch : Fin 10) (hch : ch.val = l.val % 10) :
    rd8 c t (step8 (F := Ideal) c (st1_1 t) (st1_2 t) (st1_3 t) (st1_4 t) (st1_7 t) (tp (V7 m (outsA m)) c t) (ti (V7 m (outsA m)) c t) (tx (V7 m (outsA m)) c t) (ty (V7 m (outsA m)) c t) k f) (ix3 0 y l)
      = if inS (ob m c t k) ((y.val : ℝ) : EReal) (((l.val / 10 : ℕ) : ℝ) : EReal) = 1#1
        then valS (ob m c t k) ch ((y.val : ℝ) : EReal) (((l.val / 10 : ℕ) : ℝ) : EReal) else rd8 c t f (ix3 0 y l) := by
  unfold step8
  by_cases hv : validS (ob m c t k) = 1#1
  · obtain ⟨i, j, ρ, d⟩ := drawn _ hv h3 h4
    have hc := (cond_iff m c t k).mpr hv
    rw [dif_pos ⟨hc, hok c t k⟩]
    have hR := row_eq m c t k i j ρ d
    have hL := lane_eq m c t k i j ρ d
    by_cases hin : (min 152 (8 * ((j - 11) / 8)) ≤ y.val ∧ y.val < min 152 (8 * ((j - 11) / 8)) + 32)
        ∧ (min 1536 (128 * ((10 * (i - 11)) / 128)) ≤ l.val ∧ l.val < min 1536 (128 * ((10 * (i - 11)) / 128)) + 384)
    · obtain ⟨⟨y0, y1⟩, l0, l1⟩ := hin
      refine (View.read_writes_cons_unit_of_mem (st1_7 t).view f _ _ [] (ix3 0 y l)
        (ix3 0 (⟨y.val - min 152 (8 * ((j - 11) / 8)), by omega⟩ : Fin 32) (⟨l.val - min 1536 (128 * ((10 * (i - 11)) / 128)), by omega⟩ : Fin 384))
        rfl ?_).trans ?_
      · intro a
        fin_cases a
        · rfl
        · show y.val = (wRow (F := Ideal) c (st1_2 t) (ti (V7 m (outsA m)) c t) k).toNat + (y.val - min 152 (8 * ((j - 11) / 8)))
          omega
        · show l.val = (wLane (F := Ideal) c (st1_2 t) (ti (V7 m (outsA m)) c t) k).toNat + (l.val - min 1536 (128 * ((10 * (i - 11)) / 128)))
          omega
      · exact w8_at m c t k hc (hok c t k) f hv y l _ _ ch hch (by show _ + (y.val - _) = _; omega) (by show _ + (l.val - _) = _; omega)
    · rw [if_neg]
      · have hout : (y.val < min 152 (8 * ((j - 11) / 8)) ∨ min 152 (8 * ((j - 11) / 8)) + 32 ≤ y.val)
          ∨ (l.val < min 1536 (128 * ((10 * (i - 11)) / 128)) ∨ min 1536 (128 * ((10 * (i - 11)) / 128)) + 384 ≤ l.val) := by omega
        rcases hout with ho | ho
        · refine View.read_writes_cons_unit_of_not_mem (st1_7 t).view f _ _ [] (ix3 0 y l) rfl 1 ?_
          show y.val < (wRow (F := Ideal) c (st1_2 t) (ti (V7 m (outsA m)) c t) k).toNat ∨ (wRow (F := Ideal) c (st1_2 t) (ti (V7 m (outsA m)) c t) k).toNat + 32 ≤ y.val
          omega
        · refine View.read_writes_cons_unit_of_not_mem (st1_7 t).view f _ _ [] (ix3 0 y l) rfl 2 ?_
          show l.val < (wLane (F := Ideal) c (st1_2 t) (ti (V7 m (outsA m)) c t) k).toNat ∨ (wLane (F := Ideal) c (st1_2 t) (ti (V7 m (outsA m)) c t) k).toNat + 384 ≤ l.val
          omega
      · intro hs
        have := inS_near _ i j ρ d _ _ hs
        have hi := d.hi
        have hj := d.hj
        omega
  · rw [dif_neg fun h => hv ((cond_iff m c t k).mp h.1), if_neg fun hs => hv (inS_valid _ _ _ hs)]

end Cert.KernelIdeal.Main
-- ==== Proof.KernelIdealAcc.lean ====
module

public import proofs.«01_k».proof.Proof.KernelIdealTab
public import proofs.«01_k».proof.Proof.Folds
public import proofs.«01_k».proof.Proof.KernelIdealStepMore

/-! # What the main call leaves in its blocks -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open Idealize.ShloMosaic.Rounds
open Idealize.ShloMosaic.Pipeline (Dat afterRegion)
open Idealize.ShloMosaic.StableHlo (launchContents)
open Cert.Spec

variable (m : (ℓ : Loc nD τ sig) → Buf (Elt Ideal) ℓ)

/-- No object is larger than the range. -/
def Small : Prop := ∀ c b k, krow m c b k 3 ≤ ((40 : ℝ) : EReal) ∧ krow m c b k 4 ≤ ((40 : ℝ) : EReal)

/-- A running maximum from zero is nonnegative. -/
theorem maxF_nonneg (h : Fin 50 → EReal) : ∀ k, 0 ≤ maxF h k := by
  intro k
  induction k with
  | zero => exact le_rfl
  | succ k ih =>
    rw [maxF]
    split_ifs
    · exact le_trans ih (le_max_left _ _)
    · exact ih

variable (hok : AllOK m) (hs : Small m) (c : Dev nD) (t : Fin cfg1.N)

include hok hs in
/-- The weight block after some trips: the greatest bell so far. -/
theorem acc9_at (y : Fin 184) (l : Fin 1920) : ∀ n, n ≤ k1_t1_loop.trips →
    rd9 c t (acc9 (F := Ideal) c (st1_1 t) (st1_2 t) (st1_3 t) (st1_8 t) (tp (V7 m (outsA m)) c t) (ti (V7 m (outsA m)) c t) (tx (V7 m (outsA m)) c t)
      ((st1_8 t).view.writes (Elt Ideal) (st1_8 t).view.junk [⟨Z8, k1_pay28 (F := Ideal)⟩]) n) (ix3 0 y l)
    = maxF (fun i => gS (krow m c (bt t) i) ((y.val : ℝ) : EReal) (((l.val / 10 : ℕ) : ℝ) : EReal)) n := by
  intro n
  induction n with
  | zero =>
    intro _
    unfold rd9
    rw [acc9, View.read_writes_full]
    exact Ideal.ofBits_zero_f32
  | succ n ih =>
    intro hn
    have h50 := trips_eq
    have e := acc9_succ (F := Ideal) c (st1_1 t) (st1_2 t) (st1_3 t) (st1_8 t) (tp (V7 m (outsA m)) c t) (ti (V7 m (outsA m)) c t) (tx (V7 m (outsA m)) c t)
      ((st1_8 t).view.writes (Elt Ideal) (st1_8 t).view.junk [⟨Z8, k1_pay28 (F := Ideal)⟩]) ⟨n, hn⟩
    have i := ih (Nat.le_of_succ_le hn)
    refine (congrArg (fun f => rd9 c t f (ix3 0 y l)) e).trans ?_
    refine (step9_at m c t ⟨n, hn⟩ hok (hs c _ _).1 (hs c _ _).2 _ y l (by rw [i]; exact maxF_nonneg _ _)).trans ?_
    rw [i, maxF, dif_pos (by omega)]

include hok hs in
/-- The heatmap block after some trips: its plane’s greatest bell so far. -/
theorem acc7_at (ch : Fin 10) (y : Fin 184) (x : Fin 180) : ∀ n, n ≤ k1_t1_loop.trips →
    rd7 c t (acc7 (F := Ideal) c (st1_1 t) (st1_2 t) (st1_6 t) (tp (V7 m (outsA m)) c t) (ti (V7 m (outsA m)) c t)
      ((st1_6 t).view.writes (Elt Ideal) (st1_6 t).view.junk [⟨Z7, k1_pay26 (F := Ideal)⟩]) n) (ix4 0 ch y x)
    = maxF (fun i => if Ideal.fptosi 32 (krow m c (bt t) i 9) = BitVec.ofNat 32 ch.val
        then gS (krow m c (bt t) i) ((y.val : ℝ) : EReal) ((x.val : ℝ) : EReal) else 0) n := by
  intro n
  induction n with
  | zero =>
    intro _
    unfold rd7
    rw [acc7, View.read_writes_full]
    exact Ideal.ofBits_zero_f32
  | succ n ih =>
    intro hn
    have h50 := trips_eq
    have e := acc7_succ (F := Ideal) c (st1_1 t) (st1_2 t) (st1_6 t) (tp (V7 m (outsA m)) c t) (ti (V7 m (outsA m)) c t)
      ((st1_6 t).view.writes (Elt Ideal) (st1_6 t).view.junk [⟨Z7, k1_pay26 (F := Ideal)⟩]) ⟨n, hn⟩
    have i := ih (Nat.le_of_succ_le hn)
    refine (congrArg (fun f => rd7 c t f (ix4 0 ch y x)) e).trans ?_
    refine (step7_at m c t ⟨n, hn⟩ hok (hs c _ _).1 (hs c _ _).2 _ ch y x (by rw [i]; exact maxF_nonneg _ _)).trans ?_
    rw [i, maxF, dif_pos (by omega)]

include hok hs in
/-- The target block after some trips: the last covering object’s target. -/
theorem acc8_at (y : Fin 184) (l : Fin 1920) (ch : Fin 10) (hch : ch.val = l.val % 10) : ∀ n, n ≤ k1_t1_loop.trips →
    rd8 c t (acc8 (F := Ideal) c (st1_1 t) (st1_2 t) (st1_3 t) (st1_4 t) (st1_7 t) (tp (V7 m (outsA m)) c t) (ti (V7 m (outsA m)) c t) (tx (V7 m (outsA m)) c t) (ty (V7 m (outsA m)) c t)
      ((st1_7 t).view.writes (Elt Ideal) (st1_7 t).view.junk [⟨Z8, k1_pay27 (F := Ideal)⟩]) n) (ix3 0 y l)
    = lastF (fun i => inS (krow m c (bt t) i) ((y.val : ℝ) : EReal) (((l.val / 10 : ℕ) : ℝ) : EReal) = 1#1)
        (fun i => valS (krow m c (bt t) i) ch ((y.val : ℝ) : EReal) (((l.val / 10 : ℕ) : ℝ) : EReal)) n := by
  intro n
  induction n with
  | zero =>
    intro _
    unfold rd8
    rw [acc8, View.read_writes_full]
    exact Ideal.ofBits_zero_f32
  | succ n ih =>
    intro hn
    have h50 := trips_eq
    have e := acc8_succ (F := Ideal) c (st1_1 t) (st1_2 t) (st1_3 t) (st1_4 t) (st1_7 t) (tp (V7 m (outsA m)) c t) (ti (V7 m (outsA m)) c t) (tx (V7 m (outsA m)) c t) (ty (V7 m (outsA m)) c t)
      ((st1_7 t).view.writes (Elt Ideal) (st1_7 t).view.junk [⟨Z8, k1_pay27 (F := Ideal)⟩]) ⟨n, hn⟩
    have i := ih (Nat.le_of_succ_le hn)
    refine (congrArg (fun f => rd8 c t f (ix3 0 y l)) e).trans ?_
    refine (step8_at m c t ⟨n, hn⟩ hok (hs c _ _).1 (hs c _ _).2 _ y l ch hch).trans ?_
    rw [i, lastF, dif_pos (by omega)]

include hok hs in
/-- The heatmaps' block: each class's greatest bell. -/
theorem hmAt_at (ch : Fin 10) (y : Fin 184) (x : Fin 180) :
    (hmAt (V7 m (outsA m)) c t : S1x10x184x180.Idx → EReal) (ix4 0 ch y x)
      = hmS (krow m c (bt t)) ch.val ((y.val : ℝ) : EReal) ((x.val : ℝ) : EReal) := by
  refine (acc7_at m hok hs c t ch y x k1_t1_loop.trips le_rfl).trans ?_
  rw [trips_eq, ← fold_eq_maxF]
  · rfl
  · intro n; split_ifs
    · exact gS_nonneg _ _ _
    · exact le_rfl

include hok hs in
/-- The targets' block: what the last object over a cell writes. -/
theorem btAt_at (y : Fin 184) (l : Fin 1920) (ch : Fin 10) (hch : ch.val = l.val % 10) :
    (btAt (V7 m (outsA m)) c t : S1x184x1920.Idx → EReal) (ix3 0 y l)
      = lastF (fun i => inS (krow m c (bt t) i) ((y.val : ℝ) : EReal) (((l.val / 10 : ℕ) : ℝ) : EReal) = 1#1)
        (fun i => valS (krow m c (bt t) i) ch ((y.val : ℝ) : EReal) (((l.val / 10 : ℕ) : ℝ) : EReal)) 50 := by
  refine (acc8_at m hok hs c t y l ch hch k1_t1_loop.trips le_rfl).trans ?_
  rw [trips_eq]

include hok hs in
/-- The weights' block: the greatest bell. -/
theorem bwAt_at (y : Fin 184) (l : Fin 1920) :
    (bwAt (V7 m (outsA m)) c t : S1x184x1920.Idx → EReal) (ix3 0 y l)
      = maxF (fun i => gS (krow m c (bt t) i) ((y.val : ℝ) : EReal) (((l.val / 10 : ℕ) : ℝ) : EReal)) 50 := by
  refine (acc9_at m hok hs c t y l k1_t1_loop.trips le_rfl).trans ?_
  rw [trips_eq]

end Cert.KernelIdeal.Main
-- ==== Proof.KernelIdealArr.lean ====
module

public import proofs.«01_k».proof.Proof.KernelIdealTab
public import proofs.«01_k».proof.Proof.Folds
public import proofs.«01_k».proof.Proof.KernelIdealAcc
public import Idealize.ShloMosaic.Lib.Pipeline.ValueKit

/-! # What the main call leaves in its arrays -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open Idealize.ShloMosaic.Rounds
open Idealize.ShloMosaic.Pipeline (Dat afterRegion)
open Idealize.ShloMosaic.StableHlo (launchContents)
open Cert.Spec

variable (m : (ℓ : Loc nD τ sig) → Buf (Elt Ideal) ℓ)

/-- The heatmap block is the picture’s. -/
theorem index1_6 : ∀ t : Fin cfg1.N, (cfg1.win 6).index t = ![t.val, 0, 0, 0] :=
  (by decide +kernel : ∀ t : Fin grid1.N, (win1 6).index t = ![t.val, 0, 0, 0])
/-- The target block is the picture’s. -/
theorem index1_7 : ∀ t : Fin cfg1.N, (cfg1.win 7).index t = ![t.val, 0, 0] :=
  (by decide +kernel : ∀ t : Fin grid1.N, (win1 7).index t = ![t.val, 0, 0])
/-- The weight block is the picture’s. -/
theorem index1_8 : ∀ t : Fin cfg1.N, (cfg1.win 8).index t = ![t.val, 0, 0] :=
  (by decide +kernel : ∀ t : Fin grid1.N, (win1 8).index t = ![t.val, 0, 0])
/-- What is written back of a heatmap block. -/
theorem xsize1_6 : ∀ t : Fin cfg1.N, (cfg1.win 6).xsize (cfg1.grid.coords t) = ![1, 10, 180, 180] :=
  (by decide +kernel : ∀ t : Fin grid1.N, (win1 6).xsize (grid1.coords t) = ![1, 10, 180, 180])
/-- What is written back of a target block. -/
theorem xsize1_7 : ∀ t : Fin cfg1.N, (cfg1.win 7).xsize (cfg1.grid.coords t) = ![1, 180, 1800] :=
  (by decide +kernel : ∀ t : Fin grid1.N, (win1 7).xsize (grid1.coords t) = ![1, 180, 1800])
/-- What is written back of a weight block. -/
theorem xsize1_8 : ∀ t : Fin cfg1.N, (cfg1.win 8).xsize (cfg1.grid.coords t) = ![1, 180, 1800] :=
  (by decide +kernel : ∀ t : Fin grid1.N, (win1 8).xsize (grid1.coords t) = ![1, 180, 1800])

variable (hok : AllOK m) (hs : Small m) (c : Dev nD)

/-- The heatmaps. -/
def hmG : S8x10x180x180.Idx → EReal := fun i => hmS (krow m c (i 0)) (i 1).val (((i 2).val : ℝ) : EReal) (((i 3).val : ℝ) : EReal)
/-- The targets, lane by lane. -/
def btG : S8x180x1800.Idx → EReal := fun i =>
  lastF (fun n => inS (krow m c (i 0) n) (((i 1).val : ℝ) : EReal) ((((i 2).val / 10 : ℕ) : ℝ) : EReal) = 1#1)
    (fun n => valS (krow m c (i 0) n) ⟨(i 2).val % 10, Nat.mod_lt _ (by decide)⟩ (((i 1).val : ℝ) : EReal) ((((i 2).val / 10 : ℕ) : ℝ) : EReal)) 50
/-- The weights, lane by lane. -/
def bwG : S8x180x1800.Idx → EReal := fun i =>
  maxF (fun n => gS (krow m c (i 0) n) (((i 1).val : ℝ) : EReal) ((((i 2).val / 10 : ℕ) : ℝ) : EReal)) 50

include hok hs in
set_option maxHeartbeats 2000000 in
set_option backward.isDefEq.respectTransparency.types false in
/-- The heatmaps after the call. -/
theorem arr1_6 : (dat1 (V7 m (outsA m)) c).arrAt 6 cfg1.N = hmG m c := by
  refine Pipeline.Dat.arrAt_eq_of_covers (dat1 (V7 m (outsA m)) c) 6 (hmG m c) (by decide +kernel) fun t _ y => ?_
  have l0 : (y 0).val < 1 := lt_of_lt_of_eq (y 0).isLt (congrFun (xsize1_6 t) 0)
  have l1 : (y 1).val < 10 := lt_of_lt_of_eq (y 1).isLt (congrFun (xsize1_6 t) 1)
  have l2 : (y 2).val < 180 := lt_of_lt_of_eq (y 2).isLt (congrFun (xsize1_6 t) 2)
  have l3 : (y 3).val < 180 := lt_of_lt_of_eq (y 3).isLt (congrFun (xsize1_6 t) 3)
  have ee : (((cfg1.win 6).blk t).view.emb y : S8x10x180x180.Idx) = ix4 (bt t) ⟨(y 1).val, l1⟩ ⟨(y 2).val, l2⟩ ⟨(y 3).val, l3⟩ := by
    show ((cfg1.win 6).rect t).emb y = _
    funext a
    apply Fin.ext
    rw [Pipeline.Window.rect_emb_val_off, index1_6]
    fin_cases a
    · show t.val * 1 + (y 0).val = t.val
      omega
    · show 0 * 10 + (y 1).val = (y 1).val
      omega
    · show 0 * 184 + (y 2).val = (y 2).val
      omega
    · show 0 * 180 + (y 3).val = (y 3).val
      omega
  have ex : ((cfg1.win 6).xinj (cfg1.grid.coords t) y : S1x10x184x180.Idx) = ix4 0 ⟨(y 1).val, l1⟩ ⟨(y 2).val, by omega⟩ ⟨(y 3).val, l3⟩ := by
    funext a
    apply Fin.ext
    fin_cases a
    · show (y 0).val = 0
      omega
    · rfl
    · rfl
    · rfl
  have hh := hmAt_at m hok hs c t ⟨(y 1).val, l1⟩ ⟨(y 2).val, by omega⟩ ⟨(y 3).val, l3⟩
  rw [after1_6]
  refine Eq.trans ?_ (hh.trans ?_)
  · exact congrArg (hmAt (V7 m (outsA m)) c t : S1x10x184x180.Idx → EReal) ex
  · exact (congrArg (hmG m c) ee).symm

include hok hs in
set_option maxHeartbeats 2000000 in
set_option backward.isDefEq.respectTransparency.types false in
/-- The targets after the call, place and channel in one axis. -/
theorem arr1_7 : (dat1 (V7 m (outsA m)) c).arrAt 7 cfg1.N = btG m c := by
  refine Pipeline.Dat.arrAt_eq_of_covers (dat1 (V7 m (outsA m)) c) 7 (btG m c) (by decide +kernel) fun t _ y => ?_
  have l0 : (y 0).val < 1 := lt_of_lt_of_eq (y 0).isLt (congrFun (xsize1_7 t) 0)
  have l1 : (y 1).val < 180 := lt_of_lt_of_eq (y 1).isLt (congrFun (xsize1_7 t) 1)
  have l2 : (y 2).val < 1800 := lt_of_lt_of_eq (y 2).isLt (congrFun (xsize1_7 t) 2)
  have ee : (((cfg1.win 7).blk t).view.emb y : S8x180x1800.Idx) = ix3 (bt t) ⟨(y 1).val, l1⟩ ⟨(y 2).val, l2⟩ := by
    show ((cfg1.win 7).rect t).emb y = _
    funext a
    apply Fin.ext
    rw [Pipeline.Window.rect_emb_val_off, index1_7]
    fin_cases a
    · show t.val * 1 + (y 0).val = t.val
      omega
    · show 0 * 184 + (y 1).val = (y 1).val
      omega
    · show 0 * 1920 + (y 2).val = (y 2).val
      omega
  have ex : ((cfg1.win 7).xinj (cfg1.grid.coords t) y : S1x184x1920.Idx) = ix3 0 ⟨(y 1).val, by omega⟩ ⟨(y 2).val, by omega⟩ := by
    funext a
    apply Fin.ext
    fin_cases a
    · show (y 0).val = 0
      omega
    · rfl
    · rfl
  have hh := btAt_at m hok hs c t ⟨(y 1).val, by omega⟩ ⟨(y 2).val, by omega⟩ ⟨(y 2).val % 10, Nat.mod_lt _ (by decide)⟩ rfl
  rw [after1_7]
  refine Eq.trans ?_ (hh.trans ?_)
  · exact congrArg (btAt (V7 m (outsA m)) c t : S1x184x1920.Idx → EReal) ex
  · exact (congrArg (btG m c) ee).symm

include hok hs in
set_option maxHeartbeats 2000000 in
set_option backward.isDefEq.respectTransparency.types false in
/-- The weights after the call, place and channel in one axis. -/
theorem arr1_8 : (dat1 (V7 m (outsA m)) c).arrAt 8 cfg1.N = bwG m c := by
  refine Pipeline.Dat.arrAt_eq_of_covers (dat1 (V7 m (outsA m)) c) 8 (bwG m c) (by decide +kernel) fun t _ y => ?_
  have l0 : (y 0).val < 1 := lt_of_lt_of_eq (y 0).isLt (congrFun (xsize1_8 t) 0)
  have l1 : (y 1).val < 180 := lt_of_lt_of_eq (y 1).isLt (congrFun (xsize1_8 t) 1)
  have l2 : (y 2).val < 1800 := lt_of_lt_of_eq (y 2).isLt (congrFun (xsize1_8 t) 2)
  have ee : (((cfg1.win 8).blk t).view.emb y : S8x180x1800.Idx) = ix3 (bt t) ⟨(y 1).val, l1⟩ ⟨(y 2).val, l2⟩ := by
    show ((cfg1.win 8).rect t).emb y = _
    funext a
    apply Fin.ext
    rw [Pipeline.Window.rect_emb_val_off, index1_8]
    fin_cases a
    · show t.val * 1 + (y 0).val = t.val
      omega
    · show 0 * 184 + (y 1).val = (y 1).val
      omega
    · show 0 * 1920 + (y 2).val = (y 2).val
      omega
  have ex : ((cfg1.win 8).xinj (cfg1.grid.coords t) y : S1x184x1920.Idx) = ix3 0 ⟨(y 1).val, by omega⟩ ⟨(y 2).val, by omega⟩ := by
    funext a
    apply Fin.ext
    fin_cases a
    · show (y 0).val = 0
      omega
    · rfl
    · rfl
  have hh := bwAt_at m hok hs c t ⟨(y 1).val, by omega⟩ ⟨(y 2).val, by omega⟩
  rw [after1_8]
  refine Eq.trans ?_ (hh.trans ?_)
  · exact congrArg (bwAt (V7 m (outsA m)) c t : S1x184x1920.Idx → EReal) ex
  · exact (congrArg (bwG m c) ee).symm

end Cert.KernelIdeal.Main
-- ==== Proof.Logit.lean ====
module

public import proofs.«01_k».proof.Proof.Spec

/-! # The squashed logit -/

@[expose] public section

noncomputable section

namespace Cert.Spec

open Idealize.ShloMosaic

/-- The squashed and clipped logit. -/
def logS (x : EReal) : EReal := min (wd 0x3F7FF972#32) (max (wd 0x38D1B717#32) (Ideal.div 1 (1 + Ideal.exp (-x))))

end Cert.Spec
-- ==== Proof.KernelIdealAvg.lean ====
module

public import proofs.«01_k».proof.Proof.KernelIdealTab
public import proofs.«01_k».proof.Proof.Folds
public import proofs.«01_k».proof.Proof.KernelIdealAcc
public import proofs.«01_k».proof.Proof.Logit

/-! # The sum over the blocks, and the logits -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open Idealize.ShloMosaic.Rounds
open Idealize.ShloMosaic.Pipeline (Dat afterRegion)
open Idealize.ShloMosaic.StableHlo (launchContents)
open Cert.Spec

variable (m : (ℓ : Loc nD τ sig) → Buf (Elt Ideal) ℓ)

/-- The word of minus infinity. -/
theorem neg_inf : (Ideal.ofBits .f32 0xFF800000#32 : EReal) = ⊥ := by
  simp [Ideal.ofBits, Ideal.ieee]

/-- The greatest of the classes, at a cell of a block. -/
def mxV (v : Vec Ideal S1x10x180x180 .f32) (y x : Fin 180) : EReal :=
  Finset.univ.fold max (⊥ : EReal) fun ch : Fin 10 => (v (ix4 0 ch y x) : EReal)

/-- A step’s sum over the cells of the maximum over the planes. -/
theorem part_at (v : Vec Ideal S1x10x180x180 .f32) :
    extractAt ![0, 0, 0] (shapeCast S1x1x1 (multiReduction (F := Ideal) .add [1, 2] S1 (shapeCast S1x180x180
      (multiReduction (F := Ideal) .maximumf [0] S180x180 (shapeCast S10x180x180 v shapeCasts_S1x10x180x180_S10x180x180) 0xFF800000#32
        reduces_S10x180x180_S180x180 (.inl rfl) rfl) shapeCasts_S180x180_S1x180x180) 0x00000000#32 reduces_S1x180x180_S1 (.inl rfl) rfl)
      shapeCasts_S1_S1x1x1) inpos_S1x1x1_p0_0_0
    = (∑ y : Fin 180, ∑ x : Fin 180, mxV v y x : EReal) := by
  unfold extractAt
  pointwise
  simp only [neg_inf]
  rfl

/-- The running sum at a point. -/
theorem pay1_at (w : BitVec 32) (v : Vec Ideal S1x10x180x180 .f32) (p : EReal) :
    (k1_pay1 (F := Ideal) w v p : EReal)
    = if w = 7#32 then max ((if w = 0#32 then 0 else p) + ∑ y : Fin 180, ∑ x : Fin 180, mxV v y x) 1
      else (if w = 0#32 then 0 else p) + ∑ y : Fin 180, ∑ x : Fin 180, mxV v y x := by
  rw [← part_at]
  have z : (Ideal.ofBits .f32 0x00000000#32 : EReal) = 0 := Ideal.ofBits_zero_f32
  have o : (Ideal.ofBits .f32 0x3F800000#32 : EReal) = 1 := Ideal.ofBits_one_f32
  rw [← z, ← o]
  have e : ∀ (u : BitVec 32), Scalar.cmpi .eq w u = 1#1 ↔ w = u := fun u => by
    show BitVec.ofBool _ = 1#1 ↔ _
    rw [ofBool_one]
    simp
  unfold k1_pay1
  dsimp only
  rw [sel_one, sel_one, if_congr (e 7#32) rfl rfl, if_congr (e 0#32) rfl rfl]
  rfl

variable (hok : AllOK m) (hs : Small m) (c : Dev nD)

/-- The greatest bell of all classes at a cell of batch entry `b`. -/
def mxS (b : Fin 8) (y x : Fin 180) : EReal :=
  Finset.univ.fold max ⊥ fun ch : Fin 10 => hmS (krow m c b) ch.val ((y.val : ℝ) : EReal) ((x.val : ℝ) : EReal)

include hok hs in
/-- One cell of a step’s heatmap block, over its planes. -/
theorem hmPart_at (t : Fin cfg1.N) (y x : Fin 180) : mxV (hmPart (V7 m (outsA m)) c t) y x = mxS m c (bt t) y x := by
  unfold mxV mxS
  refine congrArg (fun f => Finset.fold max ⊥ f Finset.univ) (funext fun ch => ?_)
  refine Eq.trans ?_ (hmAt_at m hok hs c t ch ⟨y.val, by omega⟩ x)
  unfold hmPart hmAt
  rw [View.readAt_apply]
  refine congrArg _ ?_
  funext a
  apply Fin.ext
  fin_cases a
  · rfl
  · show 0 + 1 * ch.val = ch.val
    omega
  · show 0 + 1 * y.val = y.val
    omega
  · show 0 + 1 * x.val = x.val
    omega

/-- The sum of a batch entry's cells. -/
def sumS (b : Fin 8) : EReal := ∑ y : Fin 180, ∑ x : Fin 180, mxS m c b y x

include hok hs in
/-- A step’s contribution to the count. -/
theorem part_sum (t : Fin cfg1.N) : (∑ y : Fin 180, ∑ x : Fin 180, mxV (hmPart (V7 m (outsA m)) c t) y x : EReal) = sumS m c (bt t) := by
  unfold sumS
  simp only [hmPart_at m hok hs c t]

include hok hs in
/-- The count after the first step. -/
theorem avg_zero (h) : (avgAt (V7 m (outsA m)) c 0 h : EReal) = sumS m c 0 := by
  unfold avgAt
  refine (pay1_at _ _ _).trans ?_
  rw [part_sum m hok hs, if_neg (by decide), if_pos (by decide), zero_add]
  rfl
include hok hs in
/-- The count after a later step. -/
theorem avg_succ (n : ℕ) (h) (hn : n + 1 < 7) :
    (avgAt (V7 m (outsA m)) c (n + 1) h : EReal) = (avgAt (V7 m (outsA m)) c n (Nat.lt_of_succ_lt h) : EReal) + sumS m c ⟨n + 1, by omega⟩ := by
  rw [avgAt]
  refine (pay1_at _ _ _).trans ?_
  have w7 : ¬ BitVec.ofNat 32 (n + 1) = 7#32 := by
    intro e; have := congrArg BitVec.toNat e; simp at this; omega
  have w0 : ¬ BitVec.ofNat 32 (n + 1) = 0#32 := by
    intro e; have := congrArg BitVec.toNat e; simp at this; omega
  rw [part_sum m hok hs, if_neg w7, if_neg w0]
include hok hs in
/-- The running sum after the last point. -/
theorem avg_last (h) : (avgAt (V7 m (outsA m)) c 7 h : EReal) = max (0 + ∑ b : Fin 8, sumS m c b) 1 := by
  rw [avgAt]
  refine (pay1_at _ _ _).trans ?_
  rw [part_sum m hok hs, if_pos (by decide), if_neg (by decide), avg_succ m hok hs c 5 _ (by omega), avg_succ m hok hs c 4 _ (by omega),
    avg_succ m hok hs c 3 _ (by omega), avg_succ m hok hs c 2 _ (by omega), avg_succ m hok hs c 1 _ (by omega), avg_succ m hok hs c 0 _ (by omega),
    avg_zero m hok hs c, Fin.sum_univ_eight]
  exact congrArg (fun w : EReal => max w 1) (zero_add _).symm

/-- One cell of the logits block. -/
theorem pay25_at (v : Vec Ideal S1x10x180x180 .f32) (ch : Fin 10) (y x : Fin 180) :
    (k1_pay25 (F := Ideal) v (ix4 0 ch y x) : EReal) = logS (v (ix4 0 ch y x)) := by
  unfold k1_pay25
  pointwise
  simp only [Ideal.ofBits_zero_f32, Ideal.ofBits_one_f32, zero_sub]
  rfl

/-- The logits’ input block is the picture’s. -/
theorem index1_0 : ∀ t : Fin cfg1.N, (cfg1.win 0).index t = ![t.val, 0, 0, 0] :=
  (by decide +kernel : ∀ t : Fin grid1.N, (win1 0).index t = ![t.val, 0, 0, 0])

set_option backward.isDefEq.respectTransparency.types false in
/-- The logits’ input block, at an index. -/
theorem iblk1_0 (W : Dev nD → Valuation τ sig (Elt Ideal)) (t : Fin cfg1.N) (j : S1x10x180x180.Idx) :
    iblk1 W c 0 t j = (W c main_arg1 : S8x10x180x180.Idx → EReal) (ix4 (bt t) (j 1) (j 2) (j 3)) := by
  have h0 : (j 0).val < 1 := (j 0).isLt
  unfold iblk1
  rw [View.read_apply]
  show (W c main_arg1 : S8x10x180x180.Idx → EReal) (((cfg1.win 0).rect t).emb j) = _
  refine congrArg _ ?_
  funext a
  apply Fin.ext
  rw [Pipeline.Window.rect_emb_val_off, index1_0]
  fin_cases a
  · show t.val * 1 + (j 0).val = t.val
    omega
  · show 0 * 10 + (j 1).val = (j 1).val
    omega
  · show 0 * 180 + (j 2).val = (j 2).val
    omega
  · show 0 * 180 + (j 3).val = (j 3).val
    omega

/-- The logits' block. -/
theorem logAt_at (W : Dev nD → Valuation τ sig (Elt Ideal)) (t : Fin cfg1.N) (ch : Fin 10) (y x : Fin 180) :
    (logAt W c t : S1x10x180x180.Idx → EReal) (ix4 0 ch y x) = logS ((W c main_arg1 : S8x10x180x180.Idx → EReal) (ix4 (bt t) ch y x)) := by
  unfold logAt
  rw [View.read_writes_full]
  refine (pay25_at _ ch y x).trans (congrArg logS ?_)
  rw [View.readAt_apply, View.read_rep, iblk1_0]
  refine congrArg _ ?_
  funext a
  apply Fin.ext
  fin_cases a
  · rfl
  · show 0 + 1 * ch.val = ch.val
    omega
  · show 0 + 1 * y.val = y.val
    omega
  · show 0 + 1 * x.val = x.val
    omega

end Cert.KernelIdeal.Main
-- ==== Proof.KernelIdealOuts.lean ====
module

public import proofs.«01_k».proof.Proof.KernelIdealTab
public import proofs.«01_k».proof.Proof.Folds
public import proofs.«01_k».proof.Proof.KernelIdealArr
public import proofs.«01_k».proof.Proof.KernelIdealAvg

/-! # What the kernel ends with -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open Idealize.ShloMosaic.Rounds
open Idealize.ShloMosaic.Pipeline (Dat afterRegion)
open Idealize.ShloMosaic.StableHlo (launchContents)
open Cert.Spec

variable (m : (ℓ : Loc nD τ sig) → Buf (Elt Ideal) ℓ) (c : Dev nD)

/-- The logits block is the picture’s. -/
theorem index1_5 : ∀ t : Fin cfg1.N, (cfg1.win 5).index t = ![t.val, 0, 0, 0] :=
  (by decide +kernel : ∀ t : Fin grid1.N, (win1 5).index t = ![t.val, 0, 0, 0])
/-- The count has one block. -/
theorem index1_9 : ∀ (t : Fin cfg1.N) (a), (cfg1.win 9).index t a = 0 :=
  (by decide +kernel : ∀ (t : Fin grid1.N) (a : Fin 2), (win1 9).index t a = 0)

/-- The logits. -/
def logG : S8x10x180x180.Idx → EReal := fun i => logS ((V7 m (outsA m) c main_arg1 : S8x10x180x180.Idx → EReal) i)

set_option maxHeartbeats 2000000 in
set_option backward.isDefEq.respectTransparency.types false in
/-- The logits after the call. -/
theorem arr1_5 : (dat1 (V7 m (outsA m)) c).arrAt 5 cfg1.N = logG m c := by
  refine Pipeline.Dat.arrAt_eq_of_covers (dat1 (V7 m (outsA m)) c) 5 (logG m c) (by decide +kernel) fun t _ y => ?_
  have l0 : (y 0).val < 1 := (y 0).isLt
  have l1 : (y 1).val < 10 := (y 1).isLt
  have l2 : (y 2).val < 180 := (y 2).isLt
  have l3 : (y 3).val < 180 := (y 3).isLt
  have ee : (((cfg1.win 5).blk t).view.emb y : S8x10x180x180.Idx) = ix4 (bt t) ⟨(y 1).val, l1⟩ ⟨(y 2).val, l2⟩ ⟨(y 3).val, l3⟩ := by
    show ((cfg1.win 5).rect t).emb y = _
    funext a
    apply Fin.ext
    rw [Pipeline.Window.rect_emb_val_off, index1_5]
    fin_cases a
    · show t.val * 1 + (y 0).val = t.val
      omega
    · show 0 * 10 + (y 1).val = (y 1).val
      omega
    · show 0 * 180 + (y 2).val = (y 2).val
      omega
    · show 0 * 180 + (y 3).val = (y 3).val
      omega
  have ex : ((cfg1.win 5).xinj (cfg1.grid.coords t) y : S1x10x180x180.Idx) = ix4 0 ⟨(y 1).val, l1⟩ ⟨(y 2).val, l2⟩ ⟨(y 3).val, l3⟩ := by
    funext a
    apply Fin.ext
    fin_cases a
    · show (y 0).val = 0
      omega
    · rfl
    · rfl
    · rfl
  have hh := logAt_at c (V7 m (outsA m)) t ⟨(y 1).val, l1⟩ ⟨(y 2).val, l2⟩ ⟨(y 3).val, l3⟩
  rw [after1_5]
  refine Eq.trans ?_ (hh.trans ?_)
  · exact congrArg (logAt (V7 m (outsA m)) c t : S1x10x180x180.Idx → EReal) ex
  · exact (congrArg (logG m c) ee).symm

variable (hok : AllOK m) (hs : Small m)

/-- The count. -/
def avgG : EReal := max (0 + ∑ b : Fin 8, sumS m c b) 1

/-- The count at a step that is the last. -/
theorem avg_seven (W : Dev nD → Valuation τ sig (Elt Ideal)) (n : ℕ) (h) (e : n = 7) : avgAt W c n h = avgAt W c 7 (e ▸ h) := by
  subst e; rfl

include hok hs in
set_option maxHeartbeats 2000000 in
set_option backward.isDefEq.respectTransparency.types false in
/-- The count after the call. -/
theorem arr1_9 : (dat1 (V7 m (outsA m)) c).arrAt 9 cfg1.N = (fun _ => avgG m c : S1x1.Idx → EReal) := by
  refine Pipeline.Dat.arrAt_eq_of_covers (dat1 (V7 m (outsA m)) c) 9 (fun _ => avgG m c : S1x1.Idx → EReal) (by decide +kernel) fun t hf y => ?_
  have h7 := (flush1_9 t).mp hf
  have h8 : t.val < 8 := t.isLt
  rw [after1_9]
  show avgAt (V7 m (outsA m)) c t.val t.isLt = avgG m c
  rw [avg_seven c _ t.val t.isLt (by omega)]
  exact avg_last m hok hs c _

/-! ## The arrays at the end -/

/-- What the call leaves in a window’s array. -/
theorem U8_arr (w : Fin cfg1.W) : U8 m c (Pipeline.arrRef spec1 w) = (dat1 (V7 m (outsA m)) c).arrAt w cfg1.N :=
  Pipeline.afterRegion_arr (dat1 (V7 m (outsA m)) c) (V7 m (outsA m) c) launch1.win.arr_inj w

/-- The logits, as the host meets them. -/
theorem V8_0 : (V8 m (outsB m) c (Proc.devRef .tc main_v10_0) : S8x10x180x180.Idx → EReal) = logG m c := by
  rw [← U8_ref]
  exact (U8_arr m c 5).trans (arr1_5 m c)
include hok hs in
/-- The heatmaps, as the host meets them. -/
theorem V8_1 : (V8 m (outsB m) c (Proc.devRef .tc main_v10_1) : S8x10x180x180.Idx → EReal) = hmG m c := by
  rw [← U8_ref]
  exact (U8_arr m c 6).trans (arr1_6 m hok hs c)
include hok hs in
/-- The targets, as the host meets them. -/
theorem V8_2 : (V8 m (outsB m) c (Proc.devRef .tc main_v10_2) : S8x180x1800.Idx → EReal) = btG m c := by
  rw [← U8_ref]
  exact (U8_arr m c 7).trans (arr1_7 m hok hs c)
include hok hs in
/-- The weights, as the host meets them. -/
theorem V8_3 : (V8 m (outsB m) c (Proc.devRef .tc main_v10_3) : S8x180x1800.Idx → EReal) = bwG m c := by
  rw [← U8_ref]
  exact (U8_arr m c 8).trans (arr1_8 m hok hs c)
include hok hs in
/-- The count, as the host meets it. -/
theorem V8_4 : (V8 m (outsB m) c (Proc.devRef .tc main_v10_4) : S1x1.Idx → EReal) = fun _ => avgG m c := by
  rw [← U8_ref]
  exact (U8_arr m c 9).trans (arr1_9 m c hok hs)

/-! ## The results -/

/-- The first result at an index. -/
theorem out_log (b : Fin 8) (ch : Fin 10) (y x : Fin 180) :
    (Vend m c (Proc.devRef .tc main_v10_0) : S8x10x180x180.Idx → EReal) (ix4 b ch y x)
      = logS ((launchContents m c main_arg1 : S8x10x180x180.Idx → EReal) (ix4 b ch y x)) := by
  have e : (Vend m c (Proc.devRef .tc main_v10_0) : S8x10x180x180.Idx → EReal) = logG m c :=
    (V9_of m (outsB m) c main_v10_0 (by decide)).trans (V8_0 m c)
  rw [e]
  unfold logG
  rw [V7_of m _ c main_arg1 (by decide), V6_of m _ c main_arg1 (by decide), V5_of m _ c main_arg1 (by decide),
    V4_of m _ c main_arg1 (by decide), V3_of m _ c main_arg1 (by decide), V2_of m _ c main_arg1 (by decide), V1_of m c main_arg1 (by decide)]

include hok hs in
/-- The second result at an index. -/
theorem out_hm (b : Fin 8) (ch : Fin 10) (y x : Fin 180) :
    (Vend m c (Proc.devRef .tc main_v10_1) : S8x10x180x180.Idx → EReal) (ix4 b ch y x)
      = hmS (krow m c b) ch.val ((y.val : ℝ) : EReal) ((x.val : ℝ) : EReal) := by
  have e : (Vend m c (Proc.devRef .tc main_v10_1) : S8x10x180x180.Idx → EReal) = hmG m c :=
    (V9_of m (outsB m) c main_v10_1 (by decide)).trans (V8_1 m c hok hs)
  rw [e]
  rfl

/-- The last axis split into place and channel. -/
theorem split_at (X : S8x180x1800.Idx → EReal) (b : Fin 8) (y x : Fin 180) (ch : Fin 10) :
    (shapeCast S8x180x180x10 X shapeCasts_S8x180x1800_S8x180x180x10 : S8x180x180x10.Idx → EReal) (ix4 b y x ch)
      = X (ix3 b y ⟨x.val * 10 + ch.val, by omega⟩) := by
  pointwise

/-- The fourth result is the targets with the last axis split. -/
theorem V9_13 : (V9 m (outsB m) c (Proc.devRef .tc main_v13) : S8x180x180x10.Idx → EReal)
    = shapeCast S8x180x180x10 (V8 m (outsB m) c (Proc.devRef .tc main_v10_2) : S8x180x1800.Idx → EReal) shapeCasts_S8x180x1800_S8x180x180x10 := by
  show StableHlo.after hostOps2 (V8 m (outsB m) c) main_v13 = _
  after_results
  rfl
/-- The fifth result is the weights with the last axis split. -/
theorem V9_14 : (V9 m (outsB m) c (Proc.devRef .tc main_v14) : S8x180x180x10.Idx → EReal)
    = shapeCast S8x180x180x10 (V8 m (outsB m) c (Proc.devRef .tc main_v10_3) : S8x180x1800.Idx → EReal) shapeCasts_S8x180x1800_S8x180x180x10 := by
  show StableHlo.after hostOps2 (V8 m (outsB m) c) main_v14 = _
  after_results
  rfl
/-- The sixth result is the count. -/
theorem V9_15 : (V9 m (outsB m) c (Proc.devRef .tc main_v15) : S_.Idx → EReal)
    = shapeCast S_ (V8 m (outsB m) c (Proc.devRef .tc main_v10_4) : S1x1.Idx → EReal) shapeCasts_S1x1_S_ := by
  show StableHlo.after hostOps2 (V8 m (outsB m) c) main_v15 = _
  after_results
  rfl

include hok hs in
/-- The fourth result at an index. -/
theorem out_bt (b : Fin 8) (y x : Fin 180) (ch : Fin 10) :
    (Vend m c (Proc.devRef .tc main_v13) : S8x180x180x10.Idx → EReal) (ix4 b y x ch)
      = lastF (fun n => inS (krow m c b n) ((y.val : ℝ) : EReal) ((x.val : ℝ) : EReal) = 1#1)
          (fun n => valS (krow m c b n) ch ((y.val : ℝ) : EReal) ((x.val : ℝ) : EReal)) 50 := by
  refine (congrFun (V9_13 m c) _).trans ?_
  rw [split_at, V8_2 m c hok hs]
  have e1 : (x.val * 10 + ch.val) / 10 = x.val := by omega
  have e2 : (x.val * 10 + ch.val) % 10 = ch.val := by omega
  unfold btG
  show lastF (fun n => inS (krow m c b n) ((y.val : ℝ) : EReal) ((((x.val * 10 + ch.val) / 10 : ℕ) : ℝ) : EReal) = 1#1)
    (fun n => valS (krow m c b n) ⟨(x.val * 10 + ch.val) % 10, _⟩ ((y.val : ℝ) : EReal) ((((x.val * 10 + ch.val) / 10 : ℕ) : ℝ) : EReal)) 50 = _
  simp only [e1, e2]

include hok hs in
/-- The fifth result at an index. -/
theorem out_bw (b : Fin 8) (y x : Fin 180) (ch : Fin 10) :
    (Vend m c (Proc.devRef .tc main_v14) : S8x180x180x10.Idx → EReal) (ix4 b y x ch)
      = maxF (fun n => gS (krow m c b n) ((y.val : ℝ) : EReal) ((x.val : ℝ) : EReal)) 50 := by
  refine (congrFun (V9_14 m c) _).trans ?_
  rw [split_at, V8_3 m c hok hs]
  have e1 : (x.val * 10 + ch.val) / 10 = x.val := by omega
  unfold bwG
  show maxF (fun n => gS (krow m c b n) ((y.val : ℝ) : EReal) ((((x.val * 10 + ch.val) / 10 : ℕ) : ℝ) : EReal)) 50 = _
  simp only [e1]

include hok hs in
/-- The sixth result. -/
theorem out_avg (j : S_.Idx) : (Vend m c (Proc.devRef .tc main_v15) : S_.Idx → EReal) j = avgG m c := by
  refine (congrFun (V9_15 m c) _).trans ?_
  rw [V8_4 m c hok hs]
  rfl

end Cert.KernelIdeal.Main
-- ==== Proof.RefVal.lean ====
module

public import proofs.«01_k».proof.Proof.Spec
public import Idealize.ShloMosaic.Lib.Tactic.CleanTypes
public import proofs.«01_k».proof.Proof.Gen.ReferenceIdeal.Run

/-! # The reference's results at an index -/

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.Spec

variable (V0 : Valuation τ sig (Elt Ideal))

/-- Object `n` of picture `b`. -/
def row (b : Fin 8) (n : Fin 50) : Fin 10 → EReal := fun k => V0 (Proc.devRef .tc main_arg0) (ix3 b n k)

/-- The centre’s first coordinate, in cells. -/
theorem v7_at (b : Fin 8) (n : Fin 50) : res_main_v7 V0 (ix2 b n) = qS (row V0 b n 0) := by
  unfold res_main_v7; pointwise; rfl
/-- The centre’s second coordinate, in cells. -/
theorem v11_at (b : Fin 8) (n : Fin 50) : res_main_v11 V0 (ix2 b n) = qS (row V0 b n 1) := by
  unfold res_main_v11; pointwise; rfl
/-- The width, in cells. -/
theorem v15_at (b : Fin 8) (n : Fin 50) : res_main_v15 V0 (ix2 b n) = qS (row V0 b n 3) := by
  unfold res_main_v15; pointwise; rfl
/-- The length, in cells. -/
theorem v19_at (b : Fin 8) (n : Fin 50) : res_main_v19 V0 (ix2 b n) = qS (row V0 b n 4) := by
  unfold res_main_v19; pointwise; rfl
/-- The radius of the window. -/
theorem v75_at (b : Fin 8) (n : Fin 50) : res_main_v75 V0 (ix2 b n) = radO (row V0 b n) := by
  unfold res_main_v75 res_main_v23 res_main_v41 res_main_v57; pointwise
  simp only [v15_at, v19_at, Ideal.ofBits_zero_f32]
  rfl
/-- The centre’s cell, first coordinate. -/
theorem v76_at (b : Fin 8) (n : Fin 50) : res_main_v76 V0 (ix2 b n) = flS (row V0 b n 0) := by
  unfold res_main_v76; pointwise; rw [v7_at]; rfl
/-- The centre’s cell, second coordinate. -/
theorem v77_at (b : Fin 8) (n : Fin 50) : res_main_v77 V0 (ix2 b n) = flS (row V0 b n 1) := by
  unfold res_main_v77; pointwise; rw [v11_at]; rfl
/-- Whether the object is drawn. -/
theorem v94_at (b : Fin 8) (n : Fin 50) : res_main_v94 V0 (ix2 b n) = validS (row V0 b n) := by
  unfold res_main_v94; pointwise
  simp only [v15_at, v19_at, v76_at, v77_at, Ideal.ofBits_zero_f32]
  rfl
/-- The bell’s spread. -/
theorem v100_at (b : Fin 8) (n : Fin 50) : res_main_v100 V0 (ix2 b n) = sigS (row V0 b n) := by
  unfold res_main_v100; pointwise
  simp only [v75_at, Ideal.ofBits_one_f32]
  rfl

/-- A small word as a number. -/
theorem word_nat (y : ℕ) (h : y < 2 ^ 31) : (((BitVec.ofNat 32 y).toInt : ℝ) : EReal) = ((y : ℝ) : EReal) := by
  rw [BitVec.toInt_eq_toNat_cond, BitVec.toNat_ofNat, Nat.mod_eq_of_lt (by omega), if_pos (by omega)]; rfl

/-- A cell’s second coordinate. -/
theorem v2_at (y x : Fin 180) : res_main_v2 V0 (ix2 y x) = ((y.val : ℝ) : EReal) := by
  unfold res_main_v2; pointwise
  exact word_nat _ (by omega)
/-- A cell’s first coordinate. -/
theorem v3_at (y x : Fin 180) : res_main_v3 V0 (ix2 y x) = ((x.val : ℝ) : EReal) := by
  unfold res_main_v3; pointwise
  exact word_nat _ (by omega)
/-- The distance along the first coordinate. -/
theorem v105_at (b : Fin 8) (n : Fin 50) (y x : Fin 180) : res_main_v105 V0 (ix4 b n y x) = ((x.val : ℝ) : EReal) - flS (row V0 b n 0) := by
  unfold res_main_v105; pointwise
  simp only [v3_at, v76_at]
/-- The distance along the second coordinate. -/
theorem v110_at (b : Fin 8) (n : Fin 50) (y x : Fin 180) : res_main_v110 V0 (ix4 b n y x) = ((y.val : ℝ) : EReal) - flS (row V0 b n 1) := by
  unfold res_main_v110; pointwise
  simp only [v2_at, v77_at]
/-- Whether a cell lies in the object’s window, drawn or not. -/
theorem v130_at (b : Fin 8) (n : Fin 50) (y x : Fin 180) : res_main_v130 V0 (ix4 b n y x)
    = IntOp.andi (nearS (((x.val : ℝ) : EReal) - flS (row V0 b n 0)) (radO (row V0 b n)))
      (nearS (((y.val : ℝ) : EReal) - flS (row V0 b n 1)) (radO (row V0 b n))) := by
  unfold res_main_v130; pointwise
  simp only [v105_at, v110_at, v75_at]
  rfl
/-- Whether a drawn object’s window covers a cell. -/
theorem v166_at (b : Fin 8) (n : Fin 50) (y x : Fin 180) : res_main_v166 V0 (ix4 b n y x)
    = inS (row V0 b n) ((y.val : ℝ) : EReal) ((x.val : ℝ) : EReal) := by
  unfold res_main_v166; pointwise
  simp only [v130_at, v94_at]
  rfl

/-- The word of minus infinity. -/
theorem neg_inf : Ideal.ofBits .f32 0xFF800000#32 = ⊥ := by simp [Ideal.ofBits, Ideal.ieee]

/-- A choice by a bit, as a case distinction. -/
theorem select_one {α : Type} (p : BitVec 1) (x y : α) : Scalar.select p x y = if p = 1#1 then x else y := rfl

/-- The greatest bell of all classes. -/
def allR (b : Fin 8) (y x : Fin 180) : EReal := (res_main_v201 V0 : S8x180x180.Idx → EReal) (ix3 b y x)

end Cert.ReferenceIdeal.Val
-- ==== Proof.RefBw.lean ====
module

public import proofs.«01_k».proof.Proof.RefVal
public import proofs.«01_k».proof.Proof.Folds
public import Idealize.ShloMosaic.Lib.Tactic.CleanTypes
public import proofs.«01_k».proof.Proof.Gen.ReferenceIdeal.Run

/-! # The reference's greatest bell and count at an index -/

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.Spec

variable (V0 : Valuation τ sig (Elt Ideal))

/-- A map, spread over the channels and times one, is itself. -/
theorem spread_at (A : FVec Ideal S8x180x180 .f32) (b : Fin 8) (y x : Fin 180) (ch : Fin 10) :
    mulf (broadcastInDim S8x180x180x10 ![0, 1, 2, 3] bcast_S8x180x180x1_S8x180x180x10_0_1_2_3
        (broadcastInDim S8x180x180x1 ![0, 1, 2] bcast_S8x180x180_S8x180x180x1_0_1_2 A))
      (broadcastInDim S8x180x180x10 ![0, 1, 2, 3] bcast_S1x1x1x10_S8x180x180x10_0_1_2_3
        (broadcastInDim S1x1x1x10 ![3] bcast_S10_S1x1x1x10_3
          (broadcastInDim S10 ![] bcast_S_S10 (constant (F := Ideal) S_ .f32 0x3F800000#32)))) (ix4 b y x ch)
    = A (ix3 b y x) := by
  pointwise

/-- The fifth result: the greatest bell, on every channel. -/
theorem bw_at (b : Fin 8) (y x : Fin 180) (ch : Fin 10) :
    (val5 V0 (Proc.devRef .tc main_v209) : S8x180x180x10.Idx → EReal) (ix4 b y x ch) = allR V0 b y x :=
  (congrFun (val5_main_v209 V0) _).trans (spread_at (res_main_v201 V0) b y x ch)

/-- The sum of a map over all its cells, at least one. -/
theorem total_at (A : FVec Ideal S8x180x180 .f32) (j : S_.Idx) :
    maximumf (Host.reduceAdd A (constant (F := Ideal) S_ .f32 0x00000000#32) reducesTo_S8x180x180_S_d0_1_2 h_S_)
      (constant S_ .f32 0x3F800000#32) j
    = max (0 + ∑ b : Fin 8, ∑ y : Fin 180, ∑ x : Fin 180, (A (ix3 b y x) : EReal)) (1 : EReal) := by
  have e : (Finset.univ.filter fun i : S8x180x180.Idx => reducesTo_S8x180x180_S_d0_1_2.drop i = j) = Finset.univ :=
    Finset.filter_true_of_mem fun i _ => funext fun a => a.elim0
  have s : (Host.reduceAdd A (constant (F := Ideal) S_ .f32 0x00000000#32) reducesTo_S8x180x180_S_d0_1_2 h_S_ j : EReal)
      = Ideal.ofBits .f32 0x00000000#32
        + ∑ i ∈ Finset.univ.filter (fun i : S8x180x180.Idx => reducesTo_S8x180x180_S_d0_1_2.drop i = j), (A i : EReal) := rfl
  have u : (Ideal.ofBits .f32 0x3F800000#32 : EReal) = 1 := Ideal.ofBits_one_f32
  show max (Host.reduceAdd A (constant (F := Ideal) S_ .f32 0x00000000#32) reducesTo_S8x180x180_S_d0_1_2 h_S_ j : EReal)
    (Ideal.ofBits .f32 0x3F800000#32 : EReal) = _
  rw [s, e, u, Ideal.ofBits_zero_f32]
  exact congrArg (fun w : EReal => max (0 + w) 1) (sum_idx3 (fun i => (A i : EReal)))

/-- The sixth result: the sum of the greatest bells, at least one. -/
theorem avg_at (j : S_.Idx) :
    (val5 V0 (Proc.devRef .tc main_v203) : S_.Idx → EReal) j
    = max (0 + ∑ b : Fin 8, ∑ y : Fin 180, ∑ x : Fin 180, allR V0 b y x : EReal) (1 : EReal) :=
  (congrFun (val5_main_v203 V0) _).trans (total_at (res_main_v201 V0) j)

end Cert.ReferenceIdeal.Val
-- ==== Proof.RefHm.lean ====
module

public import proofs.«01_k».proof.Proof.RefVal
public import proofs.«01_k».proof.Proof.Folds
public import Idealize.ShloMosaic.Lib.Tactic.CleanTypes
public import proofs.«01_k».proof.Proof.Gen.ReferenceIdeal.Run

/-! # The reference's heatmaps at an index -/

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.Spec

variable (V0 : Valuation τ sig (Elt Ideal))

/-- One object at one cell of one class. -/
theorem cell_eq (o : Fin 10 → EReal) (ch : ℕ) (y x z : EReal) (hz : z = 0) :
    Scalar.select (IntOp.cmpi CmpIPredicate.eq (FloatOps.fptosi (F := Ideal) (φ := .f32) 32 (o 9)) (BitVec.ofNat 32 ch))
      (Scalar.select (IntOp.andi (IntOp.andi (nearS (x - flS (o 0)) (radO o)) (nearS (y - flS (o 1)) (radO o))) (validS o))
        (bellS o y x) z) z
    = if Ideal.fptosi 32 (o 9) = BitVec.ofNat 32 ch then gS o y x else 0 := by
  subst hz
  have e : (IntOp.cmpi CmpIPredicate.eq (FloatOps.fptosi (F := Ideal) (φ := .f32) 32 (o 9)) (BitVec.ofNat 32 ch) = 1#1)
      ↔ Ideal.fptosi 32 (o 9) = BitVec.ofNat 32 ch := by
    show (IntOp.cmpi CmpIPredicate.eq (Ideal.fptosi 32 (o 9)) (BitVec.ofNat 32 ch) = 1#1) ↔ _
    rw [IntOp.cmpi, ofBool_one]
    simp
  exact (select_one _ _ _).trans (if_congr e rfl rfl)

/-- The second result: each class's greatest bell. -/
theorem hm_at (b : Fin 8) (ch : Fin 10) (y x : Fin 180) :
    (val5 V0 (Proc.devRef .tc main_v144) : S8x10x180x180.Idx → EReal) (ix4 b ch y x)
    = hmS (row V0 b) ch.val ((y.val : ℝ) : EReal) ((x.val : ℝ) : EReal) := by
  refine (congrFun (val5_main_v144 V0) _).trans ?_
  clean_types
  pointwise
  simp only [v130_at, v94_at, v105_at, v110_at, v100_at, Ideal.ofBits_zero_f32, neg_inf]
  unfold hmS
  refine congrArg (fun f => Finset.fold max ⊥ f Finset.univ) (funext fun n => ?_)
  exact cell_eq (row V0 b n) ch.val _ _ _ Ideal.ofBits_zero_f32

/-- The maximum over the planes at a cell. -/
theorem allR_eq (b : Fin 8) (y x : Fin 180) : allR V0 b y x
    = Finset.univ.fold max ⊥ fun ch : Fin 10 => hmS (row V0 b) ch.val ((y.val : ℝ) : EReal) ((x.val : ℝ) : EReal) := by
  unfold allR res_main_v201
  clean_types
  pointwise
  simp only [v130_at, v94_at, v105_at, v110_at, v100_at, Ideal.ofBits_zero_f32, neg_inf]
  unfold hmS
  refine congrArg (fun f => Finset.fold max ⊥ f Finset.univ) (funext fun ch => ?_)
  refine congrArg (fun f => Finset.fold max ⊥ f Finset.univ) (funext fun n => ?_)
  exact cell_eq (row V0 b n) ch.val _ _ _ Ideal.ofBits_zero_f32

end Cert.ReferenceIdeal.Val
-- ==== Proof.RefBt.lean ====
module

public import proofs.«01_k».proof.Proof.RefVal
public import proofs.«01_k».proof.Proof.Folds
public import Idealize.ShloMosaic.Lib.Tactic.CleanTypes
public import proofs.«01_k».proof.Proof.Gen.ReferenceIdeal.Run

/-! # The reference's box targets at an index -/

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.Spec

variable (V0 : Valuation τ sig (Elt Ideal))

/-- The objects’ numbers. -/
theorem v163_at (n : Fin 50) : (res_main_v163 V0 : S1x50x1x1.Idx → BitVec 32) (ix4 0 n 0 0) = BitVec.ofNat 32 n.val := by
  unfold res_main_v163; pointwise

/-- The fourth result: what the last object covering the cell writes there. -/
theorem bt_at (b : Fin 8) (y x : Fin 180) (ch : Fin 10) :
    (val5 V0 (Proc.devRef .tc main_v191) : S8x180x180x10.Idx → EReal) (ix4 b y x ch)
    = lastF (fun n => inS (row V0 b n) ((y.val : ℝ) : EReal) ((x.val : ℝ) : EReal) = 1#1)
        (fun n => valS (row V0 b n) ch ((y.val : ℝ) : EReal) ((x.val : ℝ) : EReal)) 50 := by
  refine (congrFun (val5_main_v191 V0) _).trans ?_
  clean_types
  pointwise
  simp only [v166_at, Ideal.ofBits_zero_f32, v163_at, v7_at, v11_at, v2_at, v3_at]
  refine Eq.trans ?_ (sum_last (fun n => inS (row V0 b n) ((y.val : ℝ) : EReal) ((x.val : ℝ) : EReal) = 1#1)
    (fun n => valS (row V0 b n) ch ((y.val : ℝ) : EReal) ((x.val : ℝ) : EReal)))
  refine Finset.sum_congr rfl fun n _ => ?_
  rw [select_one]
  refine if_congr ?_ ?_ Ideal.ofBits_zero_f32
  · rw [and_one, IntOp.cmpi, ofBool_one, beq_iff_eq]
    rfl
  · fin_cases ch <;> rfl

end Cert.ReferenceIdeal.Val
-- ==== Proof.RefLog.lean ====
module

public import proofs.«01_k».proof.Proof.RefVal
public import proofs.«01_k».proof.Proof.Logit
public import Idealize.ShloMosaic.Lib.Tactic.CleanTypes
public import proofs.«01_k».proof.Proof.Gen.ReferenceIdeal.Run

/-! # The reference's logits at an index -/

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.Spec

variable (V0 : Valuation τ sig (Elt Ideal))

/-- The first result: the squashed logits. -/
theorem log_at (b : Fin 8) (ch : Fin 10) (y x : Fin 180) :
    (val5 V0 (Proc.devRef .tc main_v198) : S8x10x180x180.Idx → EReal) (ix4 b ch y x)
    = logS ((V0 (Proc.devRef .tc main_arg1) : S8x10x180x180.Idx → EReal) (ix4 b ch y x)) := by
  refine (congrFun (val5_main_v198 V0) _).trans ?_
  pointwise
  rfl

end Cert.ReferenceIdeal.Val
-- ==== Proof.KernelIdealMatch.lean ====
module

public import proofs.«01_k».proof.Proof.KernelIdealTab
public import proofs.«01_k».proof.Proof.Folds
public import proofs.«01_k».proof.Proof.KernelIdealOuts
public import proofs.«01_k».proof.Proof.KernelIdealOK
public import proofs.«01_k».proof.Proof.RefBw
public import proofs.«01_k».proof.Proof.RefHm
public import proofs.«01_k».proof.Proof.RefBt
public import proofs.«01_k».proof.Proof.RefLog
public import proofs.«01_k».proof.Pre_objects_drawn

/-! # The results agree -/

@[expose] public section

set_option maxRecDepth 16384

noncomputable section

namespace Cert.KernelIdeal.Main

open Cert.KernelIdeal Cert.KernelIdeal.Gen
open Idealize.ShloMosaic
open Idealize.ShloMosaic.TcCoe Idealize.ShloMosaic.Tactic
open Idealize.SL Idealize.SL.RA Idealize.SL.BI
open Idealize.ShloMosaic.Rounds
open Idealize.ShloMosaic.Pipeline (Dat afterRegion)
open Idealize.ShloMosaic.StableHlo (launchContents)
open Cert.Spec

variable (m : (ℓ : Loc nD τ sig) → Buf (Elt Ideal) ℓ) (c : Dev nD)

/-! ## The precondition -/

/-- The precondition’s bit, taken apart. -/
theorem drawn_word (x : BitVec 32) (p q : Bool)
    (e : IntOp.andi (IntOp.andi (IntOp.andi (IntOp.cmpi CmpIPredicate.sge x 0#32) (IntOp.cmpi CmpIPredicate.slt x 10#32)) (BitVec.ofBool p)) (BitVec.ofBool q) = 1#1) :
    x.toNat < 10 ∧ p = true ∧ q = true := by
  have and1 : ∀ w r : BitVec 1, IntOp.andi w r = 1#1 → w = 1#1 ∧ r = 1#1 := by decide
  have b1 : ∀ p : Bool, BitVec.ofBool p = 1#1 → p = true := by decide
  obtain ⟨e1, e2⟩ := and1 _ _ e
  obtain ⟨e3, e4⟩ := and1 _ _ e1
  exact ⟨cls_word x e3, b1 _ e4, b1 _ e2⟩

/-- The precondition, at one object: its class is named, its width and height are at most forty. -/
theorem drawn_at [Cert.Pre_objects_drawn.Facts] (X : FVec Ideal S8x50x10 .f32) (a1 a2 a3 a4 a5 a6)
    (h : Cert.Pre_objects_drawn.fn (F := Ideal) X a1 a2 a3 a4 a5 a6 = fun _ => 1#1) (b : Fin 8) (k : Fin 50) :
    (FloatOps.fptosi 32 (X (ix3 b k 9)) : BitVec 32).toNat < 10
      ∧ (X (ix3 b k 3) : EReal) ≤ ((40 : ℝ) : EReal) ∧ (X (ix3 b k 4) : EReal) ≤ ((40 : ℝ) : EReal) := by
  have e := congrFun h (ix2 b k)
  unfold Cert.Pre_objects_drawn.fn at e
  pointwise at e
  obtain ⟨e1, e2, e3⟩ := drawn_word _ _ _ e
  refine ⟨e1, ?_, ?_⟩
  · rw [← wd_40]
    exact of_decide_eq_true e2
  · rw [← wd_40]
    exact of_decide_eq_true e3

/-! ## The third result -/

/-- The host's stack of the regression targets, channels last. -/
def catT (a2 : S8x2x180x180.Idx → EReal) (a3 : S8x1x180x180.Idx → EReal) (a4 : S8x3x180x180.Idx → EReal) (a5 a6 : S8x2x180x180.Idx → EReal) :
    S8x180x180x10.Idx → EReal :=
  transpose S8x180x180x10 [0, 2, 3, 1] (concatenate S8x10x180x180 1 [⟨S8x2x180x180, a2⟩, ⟨S8x1x180x180, a3⟩, ⟨S8x3x180x180, a4⟩, ⟨S8x2x180x180, a5⟩, ⟨S8x2x180x180, a6⟩]
    concatenates_S8x2x180x180_S8x1x180x180_S8x3x180x180_S8x2x180x180_S8x2x180x180_S8x10x180x180_d1) transposes_S8x10x180x180_S8x180x180x10_0_2_3_1

/-- The third result, from the arrays that the last host operations meet. -/
theorem after_12 (W : Valuation τ sig (Elt Ideal)) : (StableHlo.after hostOps2 W main_v12 : S8x180x180x10.Idx → EReal)
    = catT (W main_arg2) (W main_arg3) (W main_arg4) (W main_arg5) (W main_arg6) := by
  after_results
  rfl

/-- The third result, from the arguments. -/
theorem out_cat : (Vend m c (Proc.devRef .tc main_v12) : S8x180x180x10.Idx → EReal)
    = catT (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  refine (after_12 (V8 m (outsB m) c)).trans ?_
  rw [← V9_of m (outsB m) c main_arg2 (by decide), ← V9_of m (outsB m) c main_arg3 (by decide), ← V9_of m (outsB m) c main_arg4 (by decide),
    ← V9_of m (outsB m) c main_arg5 (by decide), ← V9_of m (outsB m) c main_arg6 (by decide),
    V9_main_arg2, V9_main_arg3, V9_main_arg4, V9_main_arg5, V9_main_arg6]

/-- Equal arguments, equal stacks. -/
theorem cat_congr {a2 b2 : S8x2x180x180.Idx → EReal} {a3 b3 : S8x1x180x180.Idx → EReal} {a4 b4 : S8x3x180x180.Idx → EReal}
    {a5 b5 a6 b6 : S8x2x180x180.Idx → EReal} (e2 : a2 = b2) (e3 : a3 = b3) (e4 : a4 = b4) (e5 : a5 = b5) (e6 : a6 = b6) :
    catT a2 a3 a4 a5 a6 = catT b2 b3 b4 b5 b6 := by
  subst e2 e3 e4 e5 e6
  rfl

/-! ## The run -/

/-- The run ends with these results, the arguments unchanged. -/
theorem ends (hok : AllOK m) (ρ : Dev nD → PrngReg) : θ_run defs (onTc (τ := τ) (main (F := Ideal))) ⟨m, fun _ => 0, ρ⟩ (fun r => ∀ c : Dev nD,
      r.2.mem ((c.tc : Thread nD τ).loc main_v10_0) = Vend m c (Proc.devRef .tc main_v10_0)
      ∧ r.2.mem ((c.tc : Thread nD τ).loc main_v10_1) = Vend m c (Proc.devRef .tc main_v10_1)
      ∧ r.2.mem ((c.tc : Thread nD τ).loc main_v12) = Vend m c (Proc.devRef .tc main_v12)
      ∧ r.2.mem ((c.tc : Thread nD τ).loc main_v13) = Vend m c (Proc.devRef .tc main_v13)
      ∧ r.2.mem ((c.tc : Thread nD τ).loc main_v14) = Vend m c (Proc.devRef .tc main_v14)
      ∧ r.2.mem ((c.tc : Thread nD τ).loc main_v15) = Vend m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine θ_run_mono (run_main m hok ρ) fun r hr c => ?_
  have at_ref : ∀ (b : Ref sig .tc) (_ : Proc.devRef .tc b ∈ Pipeline.ucRefs τ sig), r.2.mem ((c.tc : Thread nD τ).loc b) = Vend m c (Proc.devRef .tc b) :=
    fun b hb => hr.1 c _ hb
  refine ⟨at_ref _ ?_, at_ref _ ?_, at_ref _ ?_, at_ref _ ?_, at_ref _ ?_, at_ref _ ?_,
    (at_ref _ ?_).trans (V9_main_arg0 m _ c), (at_ref _ ?_).trans (V9_main_arg1 m _ c), (at_ref _ ?_).trans (V9_main_arg2 m _ c),
    (at_ref _ ?_).trans (V9_main_arg3 m _ c), (at_ref _ ?_).trans (V9_main_arg4 m _ c), (at_ref _ ?_).trans (V9_main_arg5 m _ c),
    (at_ref _ ?_).trans (V9_main_arg6 m _ c)⟩ <;> exact Finset.mem_filter.mpr ⟨StableHlo.devRef_mem_tcRefs _, by decide⟩

/-! ## Kernel and reference -/

section
open Cert.ReferenceIdeal.Value (val5)
open Cert.ReferenceIdeal.Val (row bt_at hm_at allR allR_eq avg_at log_at)

variable (U : Valuation Cert.ReferenceIdeal.τ Cert.ReferenceIdeal.sig (Elt Ideal))

variable (h0 : (U (Proc.devRef .tc Cert.ReferenceIdeal.main_arg0) : S8x50x10.Idx → EReal) = (launchContents m c main_arg0 : S8x50x10.Idx → EReal))
  (h1 : (U (Proc.devRef .tc Cert.ReferenceIdeal.main_arg1) : S8x10x180x180.Idx → EReal) = (launchContents m c main_arg1 : S8x10x180x180.Idx → EReal))

include h0 in
/-- Kernel and reference read the same objects. -/
theorem row_krow (b : Fin 8) : row U b = krow m c b := by
  funext k n
  exact congrFun h0 (ix3 b k n)

include h1 in
/-- The first result agrees. -/
theorem same_log : (val5 U (Proc.devRef .tc Cert.ReferenceIdeal.main_v198) : S8x10x180x180.Idx → EReal)
    = (Vend m c (Proc.devRef .tc main_v10_0) : S8x10x180x180.Idx → EReal) := by
  funext j
  idx_vars j
  rw [log_at, out_log, h1]

variable (hok : AllOK m) (hs : Small m)

include h0 hok hs in
/-- The second result agrees. -/
theorem same_hm : (val5 U (Proc.devRef .tc Cert.ReferenceIdeal.main_v144) : S8x10x180x180.Idx → EReal)
    = (Vend m c (Proc.devRef .tc main_v10_1) : S8x10x180x180.Idx → EReal) := by
  funext j
  idx_vars j
  rw [hm_at, out_hm m c hok hs, row_krow m c U h0]

include h0 hok hs in
/-- The fourth result agrees. -/
theorem same_bt : (val5 U (Proc.devRef .tc Cert.ReferenceIdeal.main_v191) : S8x180x180x10.Idx → EReal)
    = (Vend m c (Proc.devRef .tc main_v13) : S8x180x180x10.Idx → EReal) := by
  funext j
  idx_vars j
  rw [bt_at, out_bt m c hok hs, row_krow m c U h0]

variable (hc : ∀ b k, (Ideal.fptosi 32 (krow m c b k 9)).toNat < 10)

include h0 hok hs hc in
/-- The fifth result agrees: the greatest bell over the planes is that over the objects. -/
theorem same_bw : (val5 U (Proc.devRef .tc Cert.ReferenceIdeal.main_v209) : S8x180x180x10.Idx → EReal)
    = (Vend m c (Proc.devRef .tc main_v14) : S8x180x180x10.Idx → EReal) := by
  funext j
  idx_vars j
  rw [Cert.ReferenceIdeal.Val.bw_at, out_bw m c hok hs, allR_eq, row_krow m c U h0, fold_classes _ (hc _)]

include h0 hok hs in
/-- The sixth result agrees. -/
theorem same_avg : (val5 U (Proc.devRef .tc Cert.ReferenceIdeal.main_v203) : S_.Idx → EReal)
    = (Vend m c (Proc.devRef .tc main_v15) : S_.Idx → EReal) := by
  funext j
  rw [avg_at, out_avg m c hok hs]
  unfold avgG sumS mxS
  simp only [allR_eq, row_krow m c U h0]

end

end Cert.KernelIdeal.Main
-- ==== Proof.lean ====
/- The certificate: every claim of `Cert.Claim`. -/
module

public import proofs.«01_k».proof.Proof.Ref
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelOK
public import proofs.«01_k».proof.Proof.KernelIdealOK
public import proofs.«01_k».proof.Proof.KernelIdealMatch

@[expose] public section

noncomputable section

namespace Cert.Proof

open Idealize.ShloMosaic Idealize.SL.Sem Cert.Kernel

instance preNamedFacts : Cert.Pre_classes_named.Facts where
  slices_S8x50x10_S8x50x1_0_0_9 := by decide
  shapeCasts_S8x50x1_S8x50 := by decide
  bcast_S_S8x50 := by decide

instance preDrawnFacts : Cert.Pre_objects_drawn.Facts where
  slices_S8x50x10_S8x50x1_0_0_9 := by decide
  shapeCasts_S8x50x1_S8x50 := by decide
  bcast_S_S8x50 := by decide
  slices_S8x50x10_S8x50x1_0_0_3 := by decide
  slices_S8x50x10_S8x50x1_0_0_4 := by decide

attribute [local instance] Cert.Kernel.Gen.facts Cert.KernelIdeal.Gen.facts Cert.ReferenceIdeal.Gen.facts

theorem kernel_frame : Cert.quiescent_Kernel := fun m g hp =>
  Cert.Kernel.Main.frame_run m (Cert.Kernel.Main.allOK m fun c b k => Cert.Kernel.Main.named_at _ _ _ _ _ _ _ (hp c) b k) g

theorem ideal_frame : Cert.quiescent_KernelIdeal := fun m g hp =>
  Cert.KernelIdeal.Main.frame_run m (Cert.KernelIdeal.Main.allOK m fun c b k => Cert.KernelIdeal.Main.named_at _ _ _ _ _ _ _ (hp c) b k) g

theorem ref_frame : Cert.quiescent_ReferenceIdeal := fun m g _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m g)

/-- Where the objects can be drawn, every class is named. -/
theorem drawn_ok (m : (ℓ : Loc Cert.KernelIdeal.nD Cert.KernelIdeal.τ Cert.KernelIdeal.sig) → Buf (Elt Ideal) ℓ)
    (hp : Cert.Pre_KernelIdeal_objects_drawn m) : Cert.KernelIdeal.Main.AllOK m :=
  Cert.KernelIdeal.Main.allOK m fun c b k => (Cert.KernelIdeal.Main.drawn_at _ _ _ _ _ _ _ (hp c) b k).1

theorem ideal_frame_drawn : Cert.quiescent_KernelIdeal_pre_objects_drawn := fun m g hp =>
  Cert.KernelIdeal.Main.frame_run m (drawn_ok m hp) g

theorem ref_frame_drawn : Cert.quiescent_ReferenceIdeal_pre_objects_drawn := fun m g _ => ref_frame m g trivial

open Cert.KernelIdeal.Main in
/-- The kernel's six results are the reference's. -/
theorem results : Cert.algebraic_KernelIdeal_ReferenceIdeal_pre_objects_drawn := fun m g m' g' hp ha => by
  have hok := drawn_ok m hp
  have hd := fun c b k => drawn_at _ _ _ _ _ _ _ (hp c) b k
  have hs : Small m := fun c b k => (hd c b k).2
  have hc : ∀ (c : Dev Cert.KernelIdeal.nD) b k, (Ideal.fptosi 32 (krow m c b k 9)).toNat < 10 := fun c b k => (hd c b k).1
  refine ⟨fun c => Vend m c (Proc.devRef .tc Cert.KernelIdeal.main_v10_0), fun c => Vend m c (Proc.devRef .tc Cert.KernelIdeal.main_v10_1),
    fun c => Vend m c (Proc.devRef .tc Cert.KernelIdeal.main_v12), fun c => Vend m c (Proc.devRef .tc Cert.KernelIdeal.main_v13),
    fun c => Vend m c (Proc.devRef .tc Cert.KernelIdeal.main_v14), fun c => Vend m c (Proc.devRef .tc Cert.KernelIdeal.main_v15), ?_, ?_⟩
  · exact ends m hok g
  · refine (θ_run Cert.ReferenceIdeal.defs _ _).mono (fun r h c => ?_) (Cert.ReferenceIdeal.Value.run (F := Ideal) m' g')
    obtain ⟨a0, a1, a2, a3, a4, a5, a6⟩ := ha c
    obtain ⟨r0, r1, r2, r3, r4, r5, rest⟩ := h c
    refine ⟨?_, ?_, ?_, ?_, ?_, ?_, rest⟩
    · exact (r0.trans (Cert.ReferenceIdeal.Value.val5_main_v198 _).symm).trans (same_log m c _ a1)
    · exact (r1.trans (Cert.ReferenceIdeal.Value.val5_main_v144 _).symm).trans (same_hm m c _ a0 hok hs)
    · refine r2.trans (Eq.trans ?_ (out_cat m c).symm)
      exact cat_congr a2 a3 a4 a5 a6
    · exact (r3.trans (Cert.ReferenceIdeal.Value.val5_main_v191 _).symm).trans (same_bt m c _ a0 hok hs)
    · exact (r4.trans (Cert.ReferenceIdeal.Value.val5_main_v209 _).symm).trans (same_bw m c _ a0 hok hs (hc c))
    · exact (r5.trans (Cert.ReferenceIdeal.Value.val5_main_v203 _).symm).trans (same_avg m c _ a0 hok hs)

theorem claim : Cert.Claim := ⟨Cert.Kernel.Gen.facts, Cert.KernelIdeal.Gen.facts, Cert.ReferenceIdeal.Gen.facts, preNamedFacts, preDrawnFacts,
  kernel_frame, ideal_frame, ideal_frame_drawn, ref_frame, ref_frame_drawn, trivial, results⟩

end Cert.Proof

end
